-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .bf16) (main_arg1 : FVec F S1024x1024 .bf16) (main_arg2 : FVec F S1x2048x32x128 .bf16) (main_arg3 : FVec F S1x2048x32x128 .bf16) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x2048x32x128 .f32 := (extf .f32 · bitsLt_bf16_f32) main_arg2
  let main_v12 : FVec F S1x2048x32x128 .f32 := Host.absf main_v11
  let main_cst_2 : FVec F S_ .f32 := constant S_ .f32 0x7F800000#32
  let main_v13 : FVec F S1x2048x32x128 .f32 := broadcastInDim S1x2048x32x128 ![] bcast_S_S1x2048x32x128 main_cst_2
  let main_v14 : IVec S1x2048x32x128 1 := cmpf .olt main_v12 main_v13
  let main_c_3 : IVec S_ 1 := constantI S_ 1 1#1
  let main_v15 : IVec S_ 1 := (fun x v => Host.reduce IntOp.andi x v reducesTo_S1x2048x32x128_S_d0_1_2_3 h_S_) main_v14 main_c_3
  let main_v16 : IVec S_ 1 := andi main_v10 main_v15
  main_v16
-- ==== Pre_finite_scores_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .bf16) (main_arg1 : FVec F S1024x4096 .bf16) (main_arg2 : FVec F S1x2048x32x128 .bf16) (main_arg3 : FVec F S1x2048x32x128 .bf16) (main_arg4 : FVec F S4096x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1x2048x32x128 .f32 := (extf .f32 · bitsLt_bf16_f32) main_arg2
  let main_v12 : FVec F S1x2048x32x128 .f32 := Host.absf main_v11
  let main_cst_2 : FVec F S_ .f32 := constant S_ .f32 0x7F800000#32
  let main_v13 : FVec F S1x2048x32x128 .f32 := broadcastInDim S1x2048x32x128 ![] bcast_S_S1x2048x32x128 main_cst_2
  let main_v14 : IVec S1x2048x32x128 1 := cmpf .olt main_v12 main_v13
  let main_c_3 : IVec S_ 1 := constantI S_ 1 1#1
  let main_v15 : IVec S_ 1 := (fun x v => Host.reduce IntOp.andi x v reducesTo_S1x2048x32x128_S_d0_1_2_3 h_S_) main_v14 main_c_3
  let main_v16 : IVec S_ 1 := andi main_v10 main_v15
  main_v16
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩
abbrev S2048x1024 : Shape := ⟨2, ![2048, 1024]⟩
abbrev S2048x32x128 : Shape := ⟨3, ![2048, 32, 128]⟩
abbrev S2048x8x128 : Shape := ⟨3, ![2048, 8, 128]⟩
abbrev S8x2048x128 : Shape := ⟨3, ![8, 2048, 128]⟩
abbrev S512x1024 : Shape := ⟨2, ![512, 1024]⟩
abbrev S4x2x256x1024 : Shape := ⟨4, ![4, 2, 256, 1024]⟩
abbrev S4x2 : Shape := ⟨2, ![4, 2]⟩
abbrev S512x128 : Shape := ⟨2, ![512, 128]⟩
abbrev S512x1 : Shape := ⟨2, ![512, 1]⟩
abbrev S1x512x128 : Shape := ⟨3, ![1, 512, 128]⟩
abbrev S512x512 : Shape := ⟨2, ![512, 512]⟩
abbrev S512 : Shape := ⟨1, ![512]⟩
abbrev S1x1 : Shape := ⟨2, ![1, 1]⟩
abbrev S1x1x256x1024 : Shape := ⟨4, ![1, 1, 256, 1024]⟩
abbrev S256x1024 : Shape := ⟨2, ![256, 1024]⟩

abbrev nBuf : Space → Nat
  | .hbm => 39
  | .vmem => 13
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x32x128, .bf16⟩
  | .hbm, ⟨3, _⟩ => ⟨S1x2048x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S2048x32x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .bf16⟩
  | .hbm, ⟨23, _⟩ => ⟨S8x2048x128, .bf16⟩
  | .hbm, ⟨24, _⟩ => ⟨S2048x32x128, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2048x8x128, .bf16⟩
  | .hbm, ⟨35, _⟩ => ⟨S8x2048x128, .bf16⟩
  | .hbm, ⟨36, _⟩ => ⟨S2048x1024, .bf16⟩
  | .hbm, ⟨37, _⟩ => ⟨S2048x1024, .f32⟩
  | .hbm, ⟨38, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x2048x128, .bf16⟩
  | .local _ .vmem, ⟨5, _⟩ => ⟨S8x2048x128, .bf16⟩
  | .local _ .vmem, ⟨6, _⟩ => ⟨S1024x1024, .bf16⟩
  | .local _ .vmem, ⟨7, _⟩ => ⟨S2048x1024, .f32⟩
  | .local _ .vmem, ⟨8, _⟩ => ⟨S512x1024, .bf16⟩
  | .local _ .vmem, ⟨9, _⟩ => ⟨S2048x1024, .bf16⟩
  | .local _ .vmem, ⟨10, _⟩ => ⟨S4x2x256x1024, .bf16⟩
  | .local _ .vmem, ⟨11, _⟩ => ⟨S4x2x256x1024, .bf16⟩
  | .local _ .vmem, ⟨12, _⟩ => ⟨S4x2x256x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_c_9 : Ref sig .tc := ⟨.hbm, 32, rfl⟩
abbrev main_c_10 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc1_scratch3 : Ref sig .tc := ⟨.vmem, 11, rfl⟩
abbrev cc1_scratch4 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev barrier0 : Sem sig := 0

abbrev nD : Nat := 4
abbrev τ : Topo := Topo.v7x

variable {F : FTy → Type} [FloatOps F]

abbrev grid0 : Pipeline.Grid := .none

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k1_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k1_dev3 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_242 : BitVec 32 := 1#32
  let v618 : BitVec 32 := Scalar.muli v3 c1_i32_242
  let v619 : BitVec 32 := Scalar.addi c0_i32_243 v618
  v619.toNat
def k1_dev4 (d0 : Dev nD) : Nat :=
  let c0_i32_255 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_254 : BitVec 32 := 1#32
  let v627 : BitVec 32 := Scalar.muli v4 c1_i32_254
  let v628 : BitVec 32 := Scalar.addi c0_i32_255 v627
  v628.toNat
def k1_dev5 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_582 : BitVec 32 := 1#32
  let v1338 : BitVec 32 := Scalar.muli v3 c1_i32_582
  let v1339 : BitVec 32 := Scalar.addi c0_i32_583 v1338
  v1339.toNat
def k1_dev6 (d0 : Dev nD) : Nat :=
  let c0_i32_594 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_593 : BitVec 32 := 1#32
  let v1347 : BitVec 32 := Scalar.muli v4 c1_i32_593
  let v1348 : BitVec 32 := Scalar.addi c0_i32_594 v1347
  v1348.toNat
def k1_dev7 (d0 : Dev nD) : Nat :=
  let c0_i32_673 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_672 : BitVec 32 := 1#32
  let v1394 : BitVec 32 := Scalar.muli v4 c1_i32_672
  let v1395 : BitVec 32 := Scalar.addi c0_i32_673 v1394
  v1395.toNat
def k1_dev8 (d0 : Dev nD) : Nat :=
  let c0_i32_687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_686 : BitVec 32 := 1#32
  let v1404 : BitVec 32 := Scalar.muli v3 c1_i32_686
  let v1405 : BitVec 32 := Scalar.addi c0_i32_687 v1404
  v1405.toNat
def k1_dev9 (d0 : Dev nD) : Nat :=
  let c0_i32_1087 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1086 : BitVec 32 := 1#32
  let v2212 : BitVec 32 := Scalar.muli v3 c1_i32_1086
  let v2213 : BitVec 32 := Scalar.addi c0_i32_1087 v2212
  v2213.toNat
def k1_dev10 (d0 : Dev nD) : Nat :=
  let c0_i32_1098 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1097 : BitVec 32 := 1#32
  let v2221 : BitVec 32 := Scalar.muli v4 c1_i32_1097
  let v2222 : BitVec 32 := Scalar.addi c0_i32_1098 v2221
  v2222.toNat
def k1_dev11 (d0 : Dev nD) : Nat :=
  let c0_i32_1177 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1176 : BitVec 32 := 1#32
  let v2268 : BitVec 32 := Scalar.muli v4 c1_i32_1176
  let v2269 : BitVec 32 := Scalar.addi c0_i32_1177 v2268
  v2269.toNat
def k1_dev12 (d0 : Dev nD) : Nat :=
  let c0_i32_1191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1190 : BitVec 32 := 1#32
  let v2278 : BitVec 32 := Scalar.muli v3 c1_i32_1190
  let v2279 : BitVec 32 := Scalar.addi c0_i32_1191 v2278
  v2279.toNat
def k1_dev13 (d0 : Dev nD) : Nat :=
  let c0_i32_1663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1662 : BitVec 32 := 1#32
  let v3182 : BitVec 32 := Scalar.muli v3 c1_i32_1662
  let v3183 : BitVec 32 := Scalar.addi c0_i32_1663 v3182
  v3183.toNat
def k1_dev14 (d0 : Dev nD) : Nat :=
  let c0_i32_1674 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1673 : BitVec 32 := 1#32
  let v3191 : BitVec 32 := Scalar.muli v4 c1_i32_1673
  let v3192 : BitVec 32 := Scalar.addi c0_i32_1674 v3191
  v3192.toNat
def k1_dev15 (d0 : Dev nD) : Nat :=
  let c0_i32_1752 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1751 : BitVec 32 := 1#32
  let v3238 : BitVec 32 := Scalar.muli v4 c1_i32_1751
  let v3239 : BitVec 32 := Scalar.addi c0_i32_1752 v3238
  v3239.toNat
def k1_dev16 (d0 : Dev nD) : Nat :=
  let c0_i32_1766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1765 : BitVec 32 := 1#32
  let v3248 : BitVec 32 := Scalar.muli v3 c1_i32_1765
  let v3249 : BitVec 32 := Scalar.addi c0_i32_1766 v3248
  v3249.toNat
def k1_dev17 (d0 : Dev nD) : Nat :=
  let c0_i32_1845 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1844 : BitVec 32 := 1#32
  let v3296 : BitVec 32 := Scalar.muli v4 c1_i32_1844
  let v3297 : BitVec 32 := Scalar.addi c0_i32_1845 v3296
  v3297.toNat
def k1_dev18 (d0 : Dev nD) : Nat :=
  let c0_i32_1859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1858 : BitVec 32 := 1#32
  let v3306 : BitVec 32 := Scalar.muli v3 c1_i32_1858
  let v3307 : BitVec 32 := Scalar.addi c0_i32_1859 v3306
  v3307.toNat
abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x2048x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 94
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S1x2048x32x128, .bf16⟩
  | .hbm, ⟨3, _⟩ => ⟨S1x2048x32x128, .bf16⟩
  | .hbm, ⟨4, _⟩ => ⟨S4096x1024, .bf16⟩
  | .hbm, ⟨5, _⟩ => ⟨S1x2048x1024, .f32⟩
  | .hbm, ⟨6, _⟩ => ⟨S1024x4096, .f32⟩
  | .hbm, ⟨7, _⟩ => ⟨S1x2048x32x128, .f32⟩
  | .hbm, ⟨8, _⟩ => ⟨S1x2048x32x128, .f32⟩
  | .hbm, ⟨9, _⟩ => ⟨S4096x1024, .f32⟩
  | .hbm, ⟨10, _⟩ => ⟨S1x2048x4096, .f32⟩
  | .hbm, ⟨11, _⟩ => ⟨S1x2048x32x128, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S1x32x2048x2048, .f32⟩
  | .hbm, ⟨56, _⟩ => ⟨S_, .f32⟩
  | .hbm, ⟨57, _⟩ => ⟨S1x32x2048x2048, .f32⟩
  | .hbm, ⟨58, _⟩ => ⟨S1x32x2048x2048, .f32⟩
  | .hbm, ⟨59, _⟩ => ⟨S1x1x2048x2048, .i1⟩
  | .hbm, ⟨60, _⟩ => ⟨S_, .f32⟩
  | .hbm, ⟨61, _⟩ => ⟨S_, .f32⟩
  | .hbm, ⟨62, _⟩ => ⟨S1x32x2048x2048, .i1⟩
  | .hbm, ⟨63, _⟩ => ⟨S1x32x2048x2048, .f32⟩
  | .hbm, ⟨64, _⟩ => ⟨S1x32x2048x2048, .f32⟩
  | .hbm, ⟨65, _⟩ => ⟨S_, .f32⟩
  | .hbm, ⟨66, _⟩ => ⟨S1x32x2048, .f32⟩
  | .hbm, ⟨67, _⟩ => ⟨S1x32x2048x1, .f32⟩
  | .hbm, ⟨68, _⟩ => ⟨S1x32x2048x2048, .f32⟩
  | .hbm, ⟨69, _⟩ => ⟨S1x32x2048x2048, .f32⟩
  | .hbm, ⟨70, _⟩ => ⟨S1x32x2048x2048, .f32⟩
  | .hbm, ⟨71, _⟩ => ⟨S_, .i1⟩
  | .hbm, ⟨72, _⟩ => ⟨S2048, .i1⟩
  | .hbm, ⟨73, _⟩ => ⟨S1x1x2048x1, .i1⟩
  | .hbm, ⟨74, _⟩ => ⟨S_, .f32⟩
  | .hbm, ⟨75, _⟩ => ⟨S1x32x2048, .f32⟩
  | .hbm, ⟨76, _⟩ => ⟨S1x32x2048x1, .f32⟩
  | .hbm, ⟨77, _⟩ => ⟨S_, .f32⟩
  | .hbm, ⟨78, _⟩ => ⟨S_, .f32⟩
  | .hbm, ⟨79, _⟩ => ⟨S1x32x2048x1, .i1⟩
  | .hbm, ⟨80, _⟩ => ⟨S1x32x2048x1, .f32⟩
  | .hbm, ⟨81, _⟩ => ⟨S1x32x2048x1, .f32⟩
  | .hbm, ⟨82, _⟩ => ⟨S1x32x2048x2048, .f32⟩
  | .hbm, ⟨83, _⟩ => ⟨S1x32x2048x2048, .f32⟩
  | .hbm, ⟨84, _⟩ => ⟨S1x1x2048x1, .i1⟩
  | .hbm, ⟨85, _⟩ => ⟨S_, .f32⟩
  | .hbm, ⟨86, _⟩ => ⟨S_, .f32⟩
  | .hbm, ⟨87, _⟩ => ⟨S1x32x2048x2048, .i1⟩
  | .hbm, ⟨88, _⟩ => ⟨S1x32x2048x2048, .f32⟩
  | .hbm, ⟨89, _⟩ => ⟨S1x32x2048x2048, .f32⟩
  | .hbm, ⟨90, _⟩ => ⟨S1x32x128x2048, .f32⟩
  | .hbm, ⟨91, _⟩ => ⟨S1x2048x32x128, .f32⟩
  | .hbm, ⟨92, _⟩ => ⟨S1x2048x4096, .f32⟩
  | .hbm, ⟨93, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.KernelIdeal.Proto.lean ====
/-
The protocol of the fused kernel on four devices: a start barrier with the two partners of a device, then for each of
four blocks of 512 rows two exchanges of half a block (rows 0..255 with one partner, rows 256..511 with the other), the
second exchange sending what the first one's sum left.

Who pays which semaphore, how much, and what each landing hands over:
* barrier of device c: one unit from each partner; partner `pr d c` hands over the landing slots that c copies into;
* first exchange, slot (q, b): c copies half b of block q of its partial product to `pr b c`; the landing hands the
  receiver its slot at the SENDER's rows (`landed1`), the departure hands c its rows back;
* second exchange, slot (q, b): c copies its sum of two partial products to `pr (1 - b) c`; likewise (`landed2`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Exec
public import Idealize.ShloMosaic.Lib.ValueLayout
public import Idealize.ShloMosaic.Lib.Pipeline.RegionTalk
public import Idealize.ShloMosaic.Lib.Pipeline.TalkSites

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen Facts₀ Facts

variable {F : FTy → Type} [FloatOps F]

abbrev UR : Type := URounds (GSem nD τ sig) Unit
abbrev UT : Type := URounds (GSem nD τ sig) (Fin 2)
abbrev UU : Type := UR × UT

local notation "𝕄" => MT nD τ sig ℕ (Elt F) ℕ UU ℕ

abbrev EP : Emb UR (MT nD τ sig ℕ (Elt F) ℕ UU ℕ) := embL
abbrev ER : Emb UT (MT nD τ sig ℕ (Elt F) ℕ UU ℕ) := embR

/-! ## Devices -/

/-- The partner of a device: number 0 differs in the last bit, number 1 in both. -/
def pr (b : Fin 2) (c : Dev nD) : Dev nD := match b with
  | 0 => (![1, 0, 3, 2] : Fin 4 → Fin 4) c
  | 1 => (![3, 2, 1, 0] : Fin 4 → Fin 4) c

/-- Being partners is mutual. -/
theorem pr_pr (b : Fin 2) (c : Dev nD) : pr b (pr b c) = c := by revert b c; decide
/-- The two partners of a device differ. -/
theorem pr_ne (c : Dev nD) : pr 0 c ≠ pr 1 c := by revert c; decide
/-- The other half of a block. -/
def flip (b : Fin 2) : Fin 2 := match b with | 0 => 1 | 1 => 0
@[simp] theorem flip_zero : flip 0 = 1 := rfl
@[simp] theorem flip_one : flip 1 = 0 := rfl
theorem flip_flip (b : Fin 2) : flip (flip b) = b := by revert b; decide

/-- The partner to whom half `b` of a block goes in exchange `σ`. -/
def tgt (σ b : Fin 2) (c : Dev nD) : Dev nD := match σ with | 0 => pr b c | 1 => pr (flip b) c
theorem tgt_tgt (σ b : Fin 2) (c : Dev nD) : tgt σ b (tgt σ b c) = c := by revert σ b c; decide

/-! ## Semaphores -/

/-- The four semaphore arrays: departures and arrivals of the two exchanges. -/
def arr (k : Fin 4) : DmaSems sig S4x2 := match k with
  | 0 => cc1_scratch5 | 1 => cc1_scratch6 | 2 => cc1_scratch7 | 3 => cc1_scratch8

theorem inb42 (q : Fin 4) (b : Fin 2) : ∀ a, (![q.val, b.val] : Fin 2 → Nat) a + S1x1.size a ≤ S4x2.size a := by
  revert q b; decide

/-- Entry (q, b) of array `k`. -/
def sm (k : Fin 4) (q : Fin 4) (b : Fin 2) : DmaSem sig :=
  (((arr k).slice (Rect.unit (s := S4x2) ![q.val, b.val] S1x1.size (inb42 q b))).squeeze S_ Facts₀.squeezes_S1x1_S_).sem

theorem sm_val (k q : Fin 4) (b : Fin 2) : (sm k q b).val = 8 + 8 * k.val + 2 * q.val + b.val := by
  revert k q b; decide

/-- The barrier semaphore. -/
abbrev barS : Sem sig := (SemArray.scalar (sig.barrier 0 rfl) : Sems sig S_).sem

/-- Which array, block and half a semaphore's number stands for. -/
def kOf (s : DmaSem sig) : Fin 4 := ⟨(s.val - 8) / 8 % 4, Nat.mod_lt _ (by decide)⟩
def qOf (s : DmaSem sig) : Fin 4 := ⟨(s.val - 8) / 2 % 4, Nat.mod_lt _ (by decide)⟩
def bOf (s : DmaSem sig) : Fin 2 := ⟨(s.val - 8) % 2, Nat.mod_lt _ (by decide)⟩
theorem kOf_sm (k q : Fin 4) (b : Fin 2) : kOf (sm k q b) = k := by
  apply Fin.ext; show ((sm k q b).val - 8) / 8 % 4 = _; rw [sm_val]; have := k.2; have := q.2; have := b.2; omega
theorem qOf_sm (k q : Fin 4) (b : Fin 2) : qOf (sm k q b) = q := by
  apply Fin.ext; show ((sm k q b).val - 8) / 2 % 4 = _; rw [sm_val]; have := k.2; have := q.2; have := b.2; omega
theorem bOf_sm (k q : Fin 4) (b : Fin 2) : bOf (sm k q b) = b := by
  apply Fin.ext; show ((sm k q b).val - 8) % 2 = _; rw [sm_val]; have := k.2; have := q.2; have := b.2; omega

/-! ## Cells -/

abbrev barCell (c : Dev nD) : GSem nD τ sig := ((c : Thread nD τ), .reg barS)
abbrev cell (k q : Fin 4) (b : Fin 2) (c : Dev nD) : GSem nD τ sig := ((c : Thread nD τ), .dma (sm k q b))
/-- The departure and the arrival array of an exchange. -/
def dep (σ : Fin 2) : Fin 4 := match σ with | 0 => 0 | 1 => 2
def arv (σ : Fin 2) : Fin 4 := match σ with | 0 => 1 | 1 => 3

/-! ## The copies' sources and destinations -/

theorem inbP (q : Fin 4) (b : Fin 2) : ∀ a, (![512 * q.val + 256 * b.val, 0] : Fin 2 → Nat) a + S256x1024.size a ≤ S2048x1024.size a := by
  intro a
  have hq := q.2; have hb := b.2
  match a with
  | ⟨0, _⟩ => show 512 * q.val + 256 * b.val + 256 ≤ 2048; omega
  | ⟨1, _⟩ => show 0 + 1024 ≤ 1024; omega
theorem inbS (q : Fin 4) (b : Fin 2) : ∀ a, (![q.val, b.val, 0, 0] : Fin 4 → Nat) a + S1x1x256x1024.size a ≤ S4x2x256x1024.size a := by
  intro a
  have hq := q.2; have hb := b.2
  match a with
  | ⟨0, _⟩ => show q.val + 1 ≤ 4; omega
  | ⟨1, _⟩ => show b.val + 1 ≤ 2; omega
  | ⟨2, _⟩ => show 0 + 256 ≤ 256; omega
  | ⟨3, _⟩ => show 0 + 1024 ≤ 1024; omega

/-- Half `b` of block `q` of the partial product's rows. -/
def pM (q : Fin 4) (b : Fin 2) : Memref sig .tc .vmem S256x1024 .bf16 :=
  (Memref.whole cc1_scratch1).slice (Rect.unit (s := S2048x1024) ![512 * q.val + 256 * b.val, 0] S256x1024.size (inbP q b)) (fun _ => rfl)
/-- Slot (q, b) of a buffer of eight slots, as the body's loads and stores reach it. -/
def slot4 (m : Memref sig .tc .vmem S4x2x256x1024 .bf16) (q : Fin 4) (b : Fin 2) : Memref sig .tc .vmem S1x1x256x1024 .bf16 :=
  m.slice (Rect.unit (s := S4x2x256x1024) ![q.val, b.val, 0, 0] S1x1x256x1024.size (inbS q b)) (fun _ => rfl)
/-- The same slot as a copy names it. -/
def slot (m : Memref sig .tc .vmem S4x2x256x1024 .bf16) (q : Fin 4) (b : Fin 2) : Memref sig .tc .vmem S256x1024 .bf16 :=
  (slot4 m q b).squeeze S256x1024 Facts₀.squeezes_S1x1x256x1024_S256x1024

/-- What the copies of exchange `σ` read on the sender and write on the receiver. -/
def src (σ : Fin 2) (q : Fin 4) (b : Fin 2) : Memref sig .tc .vmem S256x1024 .bf16 := match σ with
  | 0 => pM q b | 1 => slot (Memref.whole cc1_scratch2) q b
def dst (σ : Fin 2) (q : Fin 4) (b : Fin 2) : Memref sig .tc .vmem S256x1024 .bf16 := match σ with
  | 0 => slot (Memref.whole cc1_scratch3) q b | 1 => slot (Memref.whole cc1_scratch4) q b

/-- What one copy of half a block adds to a semaphore. -/
def N : ℕ := (dst 0 0 0).view.dmaCredit
theorem N_pos : 0 < N := View.dmaCredit_pos _ (by decide)
theorem dst_credit (σ : Fin 2) (q : Fin 4) (b : Fin 2) : (dst σ q b).view.dmaCredit = N := by
  unfold N; match σ with | 0 => rfl | 1 => rfl
theorem src_credit (σ : Fin 2) (q : Fin 4) (b : Fin 2) : (src σ q b).view.dmaCredit = N := by
  unfold N; match σ with | 0 => rfl | 1 => rfl

/-! ## Contents

`Pv c` is device c's partial product (its heads' part of the result). -/

section Contents

variable (Pv : Dev nD → Vec F S2048x1024 .bf16)

/-- The row of the partial product that slot index `i` stands for. -/
def rowOf (i : S4x2x256x1024.Idx) : Fin 2048 :=
  ⟨512 * (i 0).val + 256 * (i 1).val + (i 2).val, by
    have h0 : (i 0).val < 4 := (i 0).2; have h1 : (i 1).val < 2 := (i 1).2; have h2 : (i 2).val < 256 := (i 2).2; omega⟩
/-- A device's partial product laid out in slots. -/
def inSlots (X : Vec F S2048x1024 .bf16) : Vec F S4x2x256x1024 .bf16 := fun i => X (ix2 (rowOf i) (i 3))
/-- What device c's first landing buffer ends with. -/
def landed1 (c : Dev nD) : Vec F S4x2x256x1024 .bf16 := fun i => inSlots (Pv (pr (i 1) c)) i
/-- The sum of two partial products, as rounded. -/
def sum1 (c : Dev nD) : Vec F S4x2x256x1024 .bf16 := fun i => FloatOps.addf (inSlots (Pv c) i) (landed1 Pv c i)
/-- What device c's second landing buffer ends with. -/
def landed2 (c : Dev nD) : Vec F S4x2x256x1024 .bf16 := fun i => sum1 Pv (pr (flip (i 1)) c) i

end Contents

/-! ## The schedule -/

section Sched

variable (Pv : Dev nD → Vec F S2048x1024 .bf16)

/-- Ownership of half `b` of block `q` of c's partial product; of a slot of c's three buffers of slots. -/
abbrev pAt (q : Fin 4) (b : Fin 2) (c : Dev nD) (f : Vec F S2048x1024 .bf16) : sProp 𝕄 :=
  (pM q b).view.loc (c : Thread nD τ) ↦[(pM q b).view.set]{fullShare} f
abbrev sAt (q : Fin 4) (b : Fin 2) (c : Dev nD) (f : Vec F S4x2x256x1024 .bf16) : sProp 𝕄 :=
  (slot (Memref.whole cc1_scratch2) q b).view.loc (c : Thread nD τ) ↦[(slot (Memref.whole cc1_scratch2) q b).view.set]{fullShare} f
abbrev r1At (q : Fin 4) (b : Fin 2) (c : Dev nD) (f : Vec F S4x2x256x1024 .bf16) : sProp 𝕄 :=
  (slot (Memref.whole cc1_scratch3) q b).view.loc (c : Thread nD τ) ↦[(slot (Memref.whole cc1_scratch3) q b).view.set]{fullShare} f
abbrev r2At (q : Fin 4) (b : Fin 2) (c : Dev nD) (f : Vec F S4x2x256x1024 .bf16) : sProp 𝕄 :=
  (slot (Memref.whole cc1_scratch4) q b).view.loc (c : Thread nD τ) ↦[(slot (Memref.whole cc1_scratch4) q b).view.set]{fullShare} f

/-- One resource for each of the four blocks. -/
def quad (Φ : Fin 4 → sProp 𝕄) : sProp 𝕄 := iprop(Φ 0 ∗ Φ 1 ∗ Φ 2 ∗ Φ 3)

/-- What device `e` opens to its partner number `d`: the landing slots that this partner copies into, and that their
    arrival cells are open. -/
def offer1 (d : Fin 2) (e : Dev nD) (q : Fin 4) : sProp 𝕄 := iprop((∃ f, r1At (F := F) q d e f) ∗ reached ER (cell 1 q d e) 0)
def offer2 (d : Fin 2) (e : Dev nD) (q : Fin 4) : sProp 𝕄 := iprop((∃ f, r2At (F := F) q (flip d) e f) ∗ reached ER (cell 3 q (flip d) e) 0)
def offers (d : Fin 2) (e : Dev nD) : sProp 𝕄 := iprop(quad (offer1 (F := F) d e) ∗ quad (offer2 (F := F) d e))

/-- What a landing or departure of array `k` hands device c. -/
def dmaPay (k q : Fin 4) (b : Fin 2) (c : Dev nD) : sProp 𝕄 := match k with
  | 0 => pAt q b c (Pv c)
  | 1 => r1At q b c (landed1 Pv c)
  | 2 => sAt q b c (sum1 Pv c)
  | 3 => r2At q b c (landed2 Pv c)

/-- The duties: one round on every cell; the barrier has one duty per partner, every other cell one. -/
def sched : Rounds.Schedule (GSem nD τ sig) (Fin 2) 𝕄 where
  duties g r := if r = 0 ∧ g.1.2 = .tc then (match g.2 with
    | .reg s => if s = barS then {0, 1} else ∅
    | .dma s => if 8 ≤ s.val then {0} else ∅) else ∅
  unitless _ := False
  amount g _ _ := match g.2 with | .reg _ => 1 | .dma _ => N
  payload g _ d := match g.2 with
    | .reg _ => offers d (pr d g.1.1)
    | .dma s => dmaPay Pv (kOf s) (qOf s) (bOf s) g.1.1
  amount_pos g _ _ _ := by
    show 0 < (match g.2 with | .reg _ => 1 | .dma _ => N)
    cases g.2
    · exact Nat.one_pos
    · exact N_pos

instance dmaPay_storable (k q : Fin 4) (b : Fin 2) (c : Dev nD) : BI.Storable (upEmb : UEmb _ 𝕄) (dmaPay Pv k q b c) := by
  have hs (ℓ : Loc nD τ sig) (I : Finset ℓ.ty.Idx) (f : Buf (Elt F) ℓ) : BI.Storable (upEmb : UEmb _ 𝕄) (ℓ ↦[I]{fullShare} f : sProp 𝕄) :=
    inferInstance
  match k with
  | 0 => exact hs _ _ _
  | 1 => exact hs _ _ _
  | 2 => exact hs _ _ _
  | 3 => exact hs _ _ _
instance offers_storable (d : Fin 2) (e : Dev nD) : BI.Storable (upEmb : UEmb _ 𝕄) (offers (F := F) d e) := by
  have hs (ℓ : Loc nD τ sig) (I : Finset ℓ.ty.Idx) : BI.Storable (upEmb : UEmb _ 𝕄) (iprop(∃ f : Buf (Elt F) ℓ, ℓ ↦[I]{fullShare} f) : sProp 𝕄) :=
    inferInstance
  have hsep (P Q : sProp 𝕄) (hP : BI.Storable (upEmb : UEmb _ 𝕄) P) (hQ : BI.Storable (upEmb : UEmb _ 𝕄) Q) :
      BI.Storable (upEmb : UEmb _ 𝕄) iprop(P ∗ Q) := inferInstance
  have h1 (q : Fin 4) : BI.Storable (upEmb : UEmb _ 𝕄) (offer1 (F := F) d e q) := by
    unfold offer1
    exact hsep _ _ (hs ((slot (Memref.whole cc1_scratch3) q d).view.loc (e : Thread nD τ)) (slot (Memref.whole cc1_scratch3) q d).view.set) inferInstance
  have h2 (q : Fin 4) : BI.Storable (upEmb : UEmb _ 𝕄) (offer2 (F := F) d e q) := by
    unfold offer2
    exact hsep _ _ (hs ((slot (Memref.whole cc1_scratch4) q (flip d)).view.loc (e : Thread nD τ)) (slot (Memref.whole cc1_scratch4) q (flip d)).view.set) inferInstance
  unfold offers quad; infer_instance

instance sched_storable (g : GSem nD τ sig) (r : ℕ) (d : Fin 2) : BI.Storable (upEmb : UEmb _ 𝕄) ((sched Pv).payload g r d) := by
  show BI.Storable upEmb (match g.2 with
    | .reg _ => offers d (pr d g.1.1)
    | .dma s => dmaPay Pv (kOf s) (qOf s) (bOf s) g.1.1)
  cases g.2
  · exact offers_storable d _
  · exact dmaPay_storable Pv _ _ _ _

variable (c : Dev nD)

theorem duties_bar : (sched Pv).duties (barCell c) 0 = {0, 1} := by
  dsimp only [sched]; rw [if_pos ⟨rfl, rfl⟩]; exact if_pos rfl
theorem duties_cell (k q : Fin 4) (b : Fin 2) : (sched Pv).duties (cell k q b c) 0 = {0} := by
  dsimp only [sched]; rw [if_pos ⟨rfl, rfl⟩]; exact if_pos (by rw [sm_val]; omega)
theorem duties_later (g : GSem nD τ sig) : ∀ r, 1 ≤ r → (sched Pv).duties g r = ∅ := fun r hr => by
  dsimp only [sched]; exact if_neg (fun h => by omega)
theorem amount_bar (d : Fin 2) : (sched Pv).amount (barCell c) 0 d = 1 := rfl
theorem amount_cell (k q : Fin 4) (b d : Fin 2) : (sched Pv).amount (cell k q b c) 0 d = N := rfl
theorem payload_bar (d : Fin 2) : (sched Pv).payload (barCell c) 0 d = offers d (pr d c) := rfl
theorem payload_cell (k q : Fin 4) (b d : Fin 2) : (sched Pv).payload (cell k q b c) 0 d = dmaPay Pv k q b c := by
  show dmaPay Pv (kOf _) (qOf _) (bOf _) c = _
  rw [kOf_sm, qOf_sm, bOf_sm]
theorem expect_bar : (sched Pv).expect (barCell c) 0 = 2 := by
  unfold Schedule.expect Schedule.amountOf; rw [duties_bar]; rfl
theorem expect_cell (k q : Fin 4) (b : Fin 2) : (sched Pv).expect (cell k q b c) 0 = N := by
  unfold Schedule.expect Schedule.amountOf; rw [duties_cell, Finset.sum_singleton, amount_cell]
theorem rest_bar : bigSep ((sched Pv).duties (barCell c) 0 \ ∅) (fun u => (sched Pv).payload (barCell c) 0 u)
    = iprop(offers 0 (pr 0 c) ∗ offers 1 (pr 1 c)) := by
  rw [Finset.sdiff_empty, duties_bar, bigSep_insert (by decide), bigSep_singleton, payload_bar, payload_bar]; rfl
theorem rest_cell (k q : Fin 4) (b : Fin 2) : bigSep ((sched Pv).duties (cell k q b c) 0 \ ∅) (fun u => (sched Pv).payload (cell k q b c) 0 u)
    = dmaPay Pv k q b c := by
  rw [Finset.sdiff_empty, duties_cell, bigSep_singleton, payload_cell]

end Sched

/-! ## Debts -/

open TalkSites (Pay addL tallyL)

/-- The index (its level) at which an arrival is owed. -/
def lvl (σ : Fin 2) (q : Fin 4) : ℕ := match σ with | 0 => 2 + q.val | 1 => 10
theorem lvl_lt (σ : Fin 2) (q : Fin 4) : lvl σ q < 11 := by revert σ q; decide
def payC (σ : Fin 2) (q : Fin 4) (b : Fin 2) (c : Dev nD) : Pay nD τ sig := (cell (arv σ) q b (tgt σ b c), lvl σ q, N)
def payB (d : Fin 2) (c : Dev nD) : Pay nD τ sig := (barCell (pr d c), 1, 1)

/-- What device c pays to others, the last first. -/
def pays (c : Dev nD) : List (Pay nD τ sig) :=
  [payC 1 3 1 c, payC 1 3 0 c, payC 1 2 1 c, payC 1 2 0 c, payC 0 3 1 c, payC 0 3 0 c, payC 1 1 1 c, payC 1 1 0 c,
   payC 0 2 1 c, payC 0 2 0 c, payC 1 0 1 c, payC 1 0 0 c, payC 0 1 1 c, payC 0 1 0 c, payC 0 0 1 c, payC 0 0 0 c, payB 1 c, payB 0 c]

/-- What is still owed with `n` payments to go. -/
def owed (c : Dev nD) (n : ℕ) : CellTallies nD τ sig ℕ := addL 0 ((pays c).take n)

theorem owed_zero (c : Dev nD) : owed c 0 = 0 := rfl

theorem mayWait (c : Dev nD) (s : SemLoc sig) (i n : ℕ) (hi : i < 11)
    (h : ∀ x ∈ (pays c).take n, x.1.1.2 = .tc ∧ i < x.2.1 ∧ x.2.1 < 11) :
    (levAts (SiteBlocks.L 11) SiteBlocks.lv : sProp 𝕄) ⊢ MayWait (c : Thread nD τ) s i (owed c n) :=
  TalkSites.mayWait_addL (N := 11) (e := 11) hi (le_refl _) (O := fun _ => 0)
    (fun _ _ _ h => absurd h (Nat.lt_irrefl 0)) c s _ h

/-! ## The family of cells and tokens -/

/-- The scoped semaphores of the kernel: entry (q, b) of each of its four arrays. -/
def osem (i : Fin 4 × Fin 4 × Fin 2) : SemLoc sig := .dma (sm i.1 i.2.1 i.2.2)
theorem osem_inj : Function.Injective osem := fun i j h => by
  have h' : sm i.1 i.2.1 i.2.2 = sm j.1 j.2.1 j.2.2 := by injection h
  refine Prod.ext ?_ (Prod.ext ?_ ?_)
  · rw [← kOf_sm i.1 i.2.1 i.2.2, h', kOf_sm]
  · rw [← qOf_sm i.1 i.2.1 i.2.2, h', qOf_sm]
  · rw [← bOf_sm i.1 i.2.1 i.2.2, h', bOf_sm]

/-- Whose cell device c pays at entry (q, b) of array `k`: its own for a departure, the receiver's for an arrival. -/
def payee (k : Fin 4) (b : Fin 2) (c : Dev nD) : Dev nD := match k with
  | 0 => c | 1 => tgt 0 b c | 2 => c | 3 => tgt 1 b c
theorem payee_payee (k : Fin 4) (b : Fin 2) (c : Dev nD) : payee k b (payee k b c) = c := by revert k b c; decide

/-- The duties device c pays. -/
def tok (c : Dev nD) : Fin 2 ⊕ (Fin 4 × Fin 4 × Fin 2) → GSem nD τ sig × ℕ × Fin 2
  | .inl d => (barCell (pr d c), 0, d)
  | .inr i => (cell i.1 i.2.1 i.2.2 (payee i.1 i.2.2 c), 0, 0)
theorem tok_inj (c : Dev nD) : Function.Injective (tok c) := fun x y h => by
  match x, y with
  | .inl d, .inl d' => exact congrArg Sum.inl (congrArg (fun t => t.2.2) h)
  | .inl d, .inr j => exact absurd (congrArg (fun t => t.1.2) h) (fun h => by cases h)
  | .inr i, .inl d' => exact absurd (congrArg (fun t => t.1.2) h) (fun h => by cases h)
  | .inr i, .inr j => exact congrArg Sum.inr (osem_inj (congrArg (fun t => t.1.2) h))

/-- The device that pays a token. -/
def payer (x : GSem nD τ sig × ℕ × Fin 2) : Dev nD := match x.1.2 with
  | .reg _ => pr x.2.2 x.1.1.1
  | .dma s => payee (kOf s) (bOf s) x.1.1.1

theorem payer_tok (c : Dev nD) (i : Fin 2 ⊕ (Fin 4 × Fin 4 × Fin 2)) : payer (tok c i) = c := by
  match i with
  | .inl d => exact pr_pr d c
  | .inr i => show payee (kOf _) (bOf _) (payee _ _ c) = c; rw [kOf_sm, bOf_sm, payee_payee]

/-- The kernel's cells and tokens. -/
def fam : TalkSites.Fam nD τ sig (Fin 2) 1 where
  bar := .reg barS
  dorm _ := Finset.univ.map ⟨osem, osem_inj⟩
  toks c _ := Finset.univ.map ⟨tok c, tok_inj c⟩
  semKey _ := 0
  hsem j _ _ := (Subsingleton.elim j 0).symm
  hbar j h := by obtain ⟨i, -, h⟩ := Finset.mem_map.mp h; cases h
  tokKey x := (payer x, 0)
  htok c j x h := by
    obtain ⟨i, -, rfl⟩ := Finset.mem_map.mp h
    exact Prod.ext (payer_tok c i) (Subsingleton.elim 0 j)

theorem osem_mem (k q : Fin 4) (b : Fin 2) : (.dma (sm k q b) : SemLoc sig) ∈ fam.dorm 0 :=
  Finset.mem_map.mpr ⟨(k, q, b), Finset.mem_univ _, rfl⟩

/-! ## One copy, from its tokens to its end -/

section Copies

variable (Pv : Dev nD → Vec F S2048x1024 .bf16) (K : GSem nD τ sig → ℕ)

/-- Every cell under its invariant. -/
def invs : sProp 𝕄 := fam.cellInvs ER (sched Pv) K
instance invs_persistent : BI.Persistent (invs Pv K) := by unfold invs; infer_instance
theorem inv_cell (k q : Fin 4) (b : Fin 2) (c : Dev nD) : invs Pv K ⊢ cellInv ER (sched Pv) (K (cell k q b c)) (cell k q b c) :=
  fam.cellInvs_dorm ER (sched Pv) K c (osem_mem k q b)
theorem inv_bar (c : Dev nD) : invs Pv K ⊢ cellInv ER (sched Pv) (K (barCell c)) (barCell c) :=
  fam.cellInvs_bar ER (sched Pv) K c

/-- Before the copy: the tokens of its two ends, and device c's own two cells at their start. -/
def Tk (σ : Fin 2) (q : Fin 4) (b : Fin 2) (c : Dev nD) : sProp 𝕄 :=
  iprop(dutyTok ER (cell (arv σ) q b (tgt σ b c)) 0 0 ∗ dutyTok ER (cell (dep σ) q b c) 0 0 ∗ reached ER (cell (dep σ) q b c) 0
    ∗ atPos ER (cell (dep σ) q b c) 0 ∅ 0 ∗ atPos ER (cell (arv σ) q b c) 0 ∅ 0 ∗ cred (tallyAt (cell (arv σ) q b c) (lvl σ q) N))
/-- In flight. -/
def Fl (σ : Fin 2) (q : Fin 4) (b : Fin 2) (c : Dev nD) : sProp 𝕄 :=
  iprop(cred (tallyAt (cell (dep σ) q b c) 0 N)
    ∗ atPos ER (cell (dep σ) q b c) 0 ∅ 0 ∗ atPos ER (cell (arv σ) q b c) 0 ∅ 0 ∗ cred (tallyAt (cell (arv σ) q b c) (lvl σ q) N))
/-- Departed. -/
def Wt (σ : Fin 2) (q : Fin 4) (b : Fin 2) (c : Dev nD) : sProp 𝕄 :=
  iprop(atPos ER (cell (dep σ) q b c) 1 ∅ 0 ∗ atPos ER (cell (arv σ) q b c) 0 ∅ 0 ∗ cred (tallyAt (cell (arv σ) q b c) (lvl σ q) N))
/-- Departed and arrived. -/
def Dn (σ : Fin 2) (q : Fin 4) (b : Fin 2) (c : Dev nD) : sProp 𝕄 :=
  iprop(atPos ER (cell (dep σ) q b c) 1 ∅ 0 ∗ atPos ER (cell (arv σ) q b c) 1 ∅ 0)

abbrev 𝒱₀ : Variants := Variants.none
abbrev lev : sProp 𝕄 := levAts (SiteBlocks.L 11) SiteBlocks.lv

/-- Wait for a departure: the source comes back. -/
theorem wait_dep (σ : Fin 2) (q : Fin 4) (b : Fin 2) (c : Dev nD) (n : ℕ) {α : Type} {s s' : Shape} {e e' : EltTy} {sp sp' : Space} {κ' : Kind}
    {srcM : Memref sig .tc sp' s' e'} {dstM : Memref sig κ' sp s e} {h1 : srcM.view.WordExact} {h2 : dstM.view.WordExact}
    (hN : dstM.view.dmaCredit = N) (hl : ∀ x ∈ (pays c).take n, x.1.1.2 = .tc ∧ 0 < x.2.1 ∧ x.2.1 < 11) {W : Waits sig ℕ}
    {k : PUnit → Prog (TpuEff nD τ sig (Elt F) Λ₀ .tc) α} {Q : α → sProp 𝕄} :
    iprop(invs Pv K ∗ lev ∗ Fl σ q b c ∗ owes (c : Thread nD τ) (owed c n) W)
      ⊢ iprop(((Wt σ q b c ∗ dmaPay Pv (dep σ) q b c ∗ owes (c : Thread nD τ) (owed c n) (insert (SemLoc.dma (sm (dep σ) q b), 0) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sm (dep σ) q b) srcM dstM h1 h2) k) Q) := by
  unfold Fl Wt
  iintro ⟨#HI, #Hlev, ⟨Hc, Hd, Ha, Hca⟩, HO⟩ Hk
  iapply (Rounds.wp_wait_rest_token 𝒱₀ ER (sched Pv) (c : Thread nD τ) none (κ := K (cell (dep σ) q b c))
      (wpE_waitDma2_eq 𝒱₀ (c : Thread nD τ) none Set.univ) (Set.mem_univ _) 0 (O := owed c n) (W := W) (R := 0) (m := 0) (T := ∅)
      (by rw [expect_cell, hN, Nat.zero_add])) $$ [Hc HO Hd]
  · isplitr; · iapply (inv_cell Pv K (dep σ) q b c); iexact HI
    isplitl [Hc]; · rw [hN]; iexact Hc
    isplitl [HO]; · iexact HO
    isplitr; · iapply (mayWait c (.dma (sm (dep σ) q b)) 0 n (by decide) hl); iexact Hlev
    iexact Hd
  iintro ⟨HO, Hd, -, Hpay⟩
  ihave Hp := (Entails.of_eq (rest_cell Pv c (dep σ) q b)) $$ Hpay
  iapply Hk
  isplitl [Hd Ha Hca]
  · isplitl [Hd]; · iexact Hd
    isplitl [Ha] <;> iassumption
  isplitl [Hp] <;> iassumption

/-- Wait for an arrival: the slot comes back, at what landed. -/
theorem wait_arv (σ : Fin 2) (q : Fin 4) (b : Fin 2) (c : Dev nD) (n : ℕ) {α : Type} {s s' : Shape} {e e' : EltTy} {sp sp' : Space} {κ' : Kind}
    {srcM : Memref sig .tc sp' s' e'} {dstM : Memref sig κ' sp s e} {h1 : srcM.view.WordExact} {h2 : dstM.view.WordExact}
    (hN : dstM.view.dmaCredit = N) (hl : ∀ x ∈ (pays c).take n, x.1.1.2 = .tc ∧ lvl σ q < x.2.1 ∧ x.2.1 < 11) {W : Waits sig ℕ}
    {k : PUnit → Prog (TpuEff nD τ sig (Elt F) Λ₀ .tc) α} {Q : α → sProp 𝕄} :
    iprop(invs Pv K ∗ lev ∗ Wt σ q b c ∗ owes (c : Thread nD τ) (owed c n) W)
      ⊢ iprop(((Dn σ q b c ∗ dmaPay Pv (arv σ) q b c ∗ owes (c : Thread nD τ) (owed c n) (insert (SemLoc.dma (sm (arv σ) q b), lvl σ q) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sm (arv σ) q b) srcM dstM h1 h2) k) Q) := by
  unfold Wt Dn
  iintro ⟨#HI, #Hlev, ⟨Hd, Ha, Hca⟩, HO⟩ Hk
  iapply (Rounds.wp_wait_rest_token 𝒱₀ ER (sched Pv) (c : Thread nD τ) none (κ := K (cell (arv σ) q b c))
      (wpE_waitDma2_eq 𝒱₀ (c : Thread nD τ) none Set.univ) (Set.mem_univ _) (lvl σ q) (O := owed c n) (W := W) (R := 0) (m := 0) (T := ∅)
      (by rw [expect_cell, hN, Nat.zero_add])) $$ [Hca HO Ha]
  · isplitr; · iapply (inv_cell Pv K (arv σ) q b c); iexact HI
    isplitl [Hca]; · rw [hN]; iexact Hca
    isplitl [HO]; · iexact HO
    isplitr; · iapply (mayWait c (.dma (sm (arv σ) q b)) (lvl σ q) n (lvl_lt σ q) hl); iexact Hlev
    iexact Ha
  iintro ⟨HO, Ha, -, Hpay⟩
  ihave Hp := (Entails.of_eq (rest_cell Pv c (arv σ) q b)) $$ Hpay
  iapply Hk
  isplitl [Hd Ha]
  · isplitl [Hd] <;> iassumption
  isplitl [Hp] <;> iassumption

end Copies

end Cert.KernelIdeal.Talk

end
-- ==== Proof.KernelIdeal.Send.lean ====
/-
Starting the copies of the two exchanges, and where the elements of a slot lie in its buffer.
-/
module

public import proofs.«01_k».proof.Proof.KernelIdeal.Proto

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen Facts₀ Facts

variable {F : FTy → Type} [FloatOps F]

local notation "𝕄" => MT nD τ sig ℕ (Elt F) ℕ UU ℕ

/-! ## Where a slot's elements lie -/

/-- Element (x, y) of slot (q, b) as the loads and stores name it. -/
theorem slot4_emb (m : Memref sig .tc .vmem S4x2x256x1024 .bf16) (q : Fin 4) (b : Fin 2) (x : Fin 256) (y : Fin 1024) :
    (slot4 m q b).view.emb (ix4 (0 : Fin 1) (0 : Fin 1) x y) = m.view.emb (ix4 q b x y) := by
  show m.view.emb _ = _
  refine congrArg m.view.emb (funext fun a => Fin.ext ?_)
  match a with
  | ⟨0, _⟩ => show q.val + 1 * 0 = q.val; omega
  | ⟨1, _⟩ => show b.val + 1 * 0 = b.val; omega
  | ⟨2, _⟩ => show 0 + 1 * x.val = x.val; omega
  | ⟨3, _⟩ => show 0 + 1 * y.val = y.val; omega

/-- Element (x, y) of slot (q, b) as a copy names it. -/
theorem slot_emb (m : Memref sig .tc .vmem S4x2x256x1024 .bf16) (q : Fin 4) (b : Fin 2) (x : Fin 256) (y : Fin 1024) :
    (slot m q b).view.emb (ix2 x y) = m.view.emb (ix4 q b x y) := by
  rw [← slot4_emb m q b x y]
  show (slot4 m q b).view.emb (Shape.reshapeEquiv _ (ix2 x y)) = _
  exact congrArg _ (reshapeEquiv_ix2_11ab _ x y)

/-- The two spellings name the same elements. -/
theorem slot_set (m : Memref sig .tc .vmem S4x2x256x1024 .bf16) (q : Fin 4) (b : Fin 2) : (slot m q b).view.set = (slot4 m q b).view.set :=
  View.set_reshape _ _

/-- Row x of half `b` of block `q`. -/
theorem pM_emb (q : Fin 4) (b : Fin 2) (x : Fin 256) (y : Fin 1024) :
    (pM q b).view.emb (ix2 x y) = (ix2 (⟨512 * q.val + 256 * b.val + x.val, by have := q.2; have := b.2; have := x.2; omega⟩ : Fin 2048) y : S2048x1024.Idx) := by
  refine funext fun a => Fin.ext ?_
  match a with
  | ⟨0, _⟩ => show 512 * q.val + 256 * b.val + 1 * x.val = 512 * q.val + 256 * b.val + x.val; omega
  | ⟨1, _⟩ => show 0 + 1 * y.val = y.val; omega

/-- Every element of a slot is at some (x, y). -/
theorem mem_slot (m : Memref sig .tc .vmem S4x2x256x1024 .bf16) (q : Fin 4) (b : Fin 2) {i : m.view.ty.Idx} (h : i ∈ (slot m q b).view.set) :
    ∃ (x : Fin 256) (y : Fin 1024), i = m.view.emb (ix4 q b x y) := by
  obtain ⟨j, -, rfl⟩ := Finset.mem_map.mp h
  exact ⟨j 0, j 1, (congrArg (slot m q b).view.emb (eq_ix2 j)).trans (slot_emb m q b (j 0) (j 1))⟩

section Landings

variable (Pv : Dev nD → Vec F S2048x1024 .bf16) (K : GSem nD τ sig → ℕ)

/-- What lands in a first-exchange slot is what the receiver's first buffer is to end with. -/
theorem landing1 (q : Fin 4) (b : Fin 2) (c : Dev nD) (fd : Vec F S4x2x256x1024 .bf16) :
    r1At q b (pr b c) ((slot (Memref.whole cc1_scratch3) q b).view.write (Elt F) fd ((pM q b).view.read (Elt F) (Pv c)) Finset.univ)
      ⊢ dmaPay Pv 1 q b (pr b c) := by
  refine Entails.of_eq (pointsTo_congr fun i hi => ?_)
  obtain ⟨x, y, rfl⟩ := mem_slot _ q b hi
  rw [← slot_emb]
  refine (View.write_emb_of_mem _ _ (Finset.mem_univ _)).trans ?_
  show Pv c ((pM q b).view.emb (ix2 x y)) = landed1 Pv (pr b c) ((slot (Memref.whole cc1_scratch3) q b).view.emb (ix2 x y))
  rw [slot_emb, pM_emb]
  show _ = inSlots (Pv (pr b (pr b c))) (ix4 q b x y)
  rw [pr_pr]; rfl

/-- What lands in a second-exchange slot is what the receiver's second buffer is to end with. -/
theorem landing2 (q : Fin 4) (b : Fin 2) (c : Dev nD) (fd : Vec F S4x2x256x1024 .bf16) :
    r2At q b (pr (flip b) c) ((slot (Memref.whole cc1_scratch4) q b).view.write (Elt F) fd
        ((slot (Memref.whole cc1_scratch2) q b).view.read (Elt F) (sum1 Pv c)) Finset.univ)
      ⊢ dmaPay Pv 3 q b (pr (flip b) c) := by
  refine Entails.of_eq (pointsTo_congr fun i hi => ?_)
  obtain ⟨x, y, rfl⟩ := mem_slot _ q b hi
  rw [← slot_emb]
  refine (View.write_emb_of_mem _ _ (Finset.mem_univ _)).trans ?_
  show sum1 Pv c ((slot (Memref.whole cc1_scratch2) q b).view.emb (ix2 x y))
    = landed2 Pv (pr (flip b) c) ((slot (Memref.whole cc1_scratch4) q b).view.emb (ix2 x y))
  rw [slot_emb, slot_emb]
  show _ = sum1 Pv (pr (flip b) (pr (flip b) c)) (ix4 q b x y)
  rw [pr_pr]; rfl

/-- Start a copy of the first exchange. -/
theorem send1 (q : Fin 4) (b : Fin 2) (c c' : Dev nD) (hc : c' = pr b c) (n m : ℕ)
    (hO : owed c n = owed c m + tallyAt (cell 1 q b (pr b c)) (lvl 0 q) N) {α : Type} {W : Waits sig ℕ}
    {hsrc : (pM q b).view.WordExact} {hdst : (slot (Memref.whole cc1_scratch3) q b).view.WordExact}
    {hsc : (slot (Memref.whole cc1_scratch3) q b).view.ref.isScScratch = false}
    {hsem : DmaTarget.Typed (nD := nD) (τ := τ) .vmem (.dma (sm 1 q b)) (.remote (Dev.tc c') (slot (Memref.whole cc1_scratch3) q b) (.dma (sm 0 q b)) hsc)}
    {k : PUnit → Prog (TpuEff nD τ sig (Elt F) Λ₀ .tc) α} {Q : α → sProp 𝕄} :
    iprop(invs Pv K ∗ Tk 0 q b c ∗ offer1 (F := F) b (pr b c) q ∗ pAt q b c (Pv c) ∗ owes (c : Thread nD τ) (owed c n) W)
      ⊢ iprop(((Fl 0 q b c ∗ owes (c : Thread nD τ) (owed c m) W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (pM q b) (.remote (Dev.tc c') (slot (Memref.whole cc1_scratch3) q b) (.dma (sm 0 q b)) hsc) (.dma (sm 1 q b)) hsrc hdst hsem) k) Q) := by
  subst hc
  unfold Tk Fl offer1
  iintro ⟨#HI, ⟨HtR, HtS, #HrS, HaS, HaR, HcR⟩, ⟨⟨%fd, Hdst⟩, #HrR⟩, Hsrc, HO⟩ Hk
  iapply (Rounds.wp_send_pointsTo 𝒱₀ ER (sched Pv) (c : Thread nD τ) none (c' := (pr b c : Thread nD τ)) (src := pM q b)
      (dst := slot (Memref.whole cc1_scratch3) q b)
      (sS := .dma (sm 0 q b)) (sem := .dma (sm 1 q b)) (q := fullShare) (fs := Pv c) (κ₁ := K (cell 0 q b c)) (κ₂ := K (cell 1 q b (pr b c)))
      (r₁ := 0) (r₂ := 0) (d₁ := 0) (d₂ := 0) (fd := fd)
      (by rw [duties_cell]; exact Finset.mem_singleton_self _) (by rw [duties_cell]; exact Finset.mem_singleton_self _)
      (lvl 0 q) 0 N (dst_credit 0 q b) (amount_cell Pv c 0 q b 0) (amount_cell Pv (pr b c) 1 q b 0) (owed c m) hO (W := W)
      (by rw [payload_cell]; exact BI.Entails.refl _)
      (by rw [payload_cell]; exact landing1 Pv q b c fd)) $$ [Hsrc Hdst HO HtS HtR]
  · isplitr; · iapply (inv_cell Pv K 0 q b c); iexact HI
    isplitr; · iapply (inv_cell Pv K 1 q b (pr b c)); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitr [HO]
  · isplitl [HcS]; · iexact HcS
    isplitl [HaS]; · iexact HaS
    isplitl [HaR] <;> iassumption
  iexact HO

/-- Start a copy of the second exchange. -/
theorem send2 (q : Fin 4) (b : Fin 2) (c c' : Dev nD) (hc : c' = pr (flip b) c) (n m : ℕ)
    (hO : owed c n = owed c m + tallyAt (cell 3 q b (pr (flip b) c)) (lvl 1 q) N) {α : Type} {W : Waits sig ℕ}
    {hsrc : (slot (Memref.whole cc1_scratch2) q b).view.WordExact} {hdst : (slot (Memref.whole cc1_scratch4) q b).view.WordExact}
    {hsc : (slot (Memref.whole cc1_scratch4) q b).view.ref.isScScratch = false}
    {hsem : DmaTarget.Typed (nD := nD) (τ := τ) .vmem (.dma (sm 3 q b)) (.remote (Dev.tc c') (slot (Memref.whole cc1_scratch4) q b) (.dma (sm 2 q b)) hsc)}
    {k : PUnit → Prog (TpuEff nD τ sig (Elt F) Λ₀ .tc) α} {Q : α → sProp 𝕄} :
    iprop(invs Pv K ∗ Tk 1 q b c ∗ ((∃ f, r2At (F := F) q b (pr (flip b) c) f) ∗ reached ER (cell 3 q b (pr (flip b) c)) 0)
        ∗ sAt q b c (sum1 Pv c) ∗ owes (c : Thread nD τ) (owed c n) W)
      ⊢ iprop(((Fl 1 q b c ∗ owes (c : Thread nD τ) (owed c m) W)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (slot (Memref.whole cc1_scratch2) q b) (.remote (Dev.tc c') (slot (Memref.whole cc1_scratch4) q b) (.dma (sm 2 q b)) hsc) (.dma (sm 3 q b)) hsrc hdst hsem) k) Q) := by
  subst hc
  unfold Tk Fl
  iintro ⟨#HI, ⟨HtR, HtS, #HrS, HaS, HaR, HcR⟩, ⟨⟨%fd, Hdst⟩, #HrR⟩, Hsrc, HO⟩ Hk
  iapply (Rounds.wp_send_pointsTo 𝒱₀ ER (sched Pv) (c : Thread nD τ) none (c' := (pr (flip b) c : Thread nD τ)) (src := slot (Memref.whole cc1_scratch2) q b)
      (dst := slot (Memref.whole cc1_scratch4) q b)
      (sS := .dma (sm 2 q b)) (sem := .dma (sm 3 q b)) (q := fullShare) (fs := sum1 Pv c) (κ₁ := K (cell 2 q b c)) (κ₂ := K (cell 3 q b (pr (flip b) c)))
      (r₁ := 0) (r₂ := 0) (d₁ := 0) (d₂ := 0) (fd := fd)
      (by rw [duties_cell]; exact Finset.mem_singleton_self _) (by rw [duties_cell]; exact Finset.mem_singleton_self _)
      (lvl 1 q) 0 N (dst_credit 1 q b) (amount_cell Pv c 2 q b 0) (amount_cell Pv (pr (flip b) c) 3 q b 0) (owed c m) hO (W := W)
      (by rw [payload_cell]; exact BI.Entails.refl _)
      (by rw [payload_cell]; exact landing2 Pv q b c fd)) $$ [Hsrc Hdst HO HtS HtR]
  · isplitr; · iapply (inv_cell Pv K 2 q b c); iexact HI
    isplitr; · iapply (inv_cell Pv K 3 q b (pr (flip b) c)); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitr [HO]
  · isplitl [HcS]; · iexact HcS
    isplitl [HaS]; · iexact HaS
    isplitl [HaR] <;> iassumption
  iexact HO

/-- The starting barrier: device c offers both partners the slots they copy into, and receives theirs. -/
theorem start_bar (c c1 c2 : Dev nD) (h1 : c1 = pr 0 c) (h2 : c2 = pr 1 c) {α : Type} {W : Waits sig ℕ}
    {k : PUnit → Prog (TpuEff nD τ sig (Elt F) Λ₀ .tc) α} {Q : α → sProp 𝕄} :
    iprop(invs Pv K ∗ lev ∗ (dutyTok ER (barCell (pr 0 c)) 0 0 ∗ dutyTok ER (barCell (pr 1 c)) 0 1 ∗ reached ER (barCell (pr 0 c)) 0 ∗ reached ER (barCell (pr 1 c)) 0)
        ∗ (offers (F := F) 0 c ∗ offers (F := F) 1 c) ∗ (atPos ER (barCell c) 0 ∅ 0 ∗ cred (tallyAt (barCell c) 1 2)) ∗ owes (c : Thread nD τ) (owed c 18) W)
      ⊢ iprop(((atPos ER (barCell c) 1 ∅ 0 ∗ offers (F := F) 0 (pr 0 c) ∗ offers (F := F) 1 (pr 1 c) ∗ owes (c : Thread nD τ) (owed c 16) (insert (SemLoc.reg barS, 1) W))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc c1) barS 1) fun _ => .op (.semSignal (Dev.tc c2) barS 1) fun _ => .op (.semWait barS 2) k) Q) := by
  subst h1 h2
  iintro ⟨#HI, #Hlev, ⟨Ht0, Ht1, #Hr0, #Hr1⟩, ⟨Ho0, Ho1⟩, ⟨Ha, Hc⟩, HO⟩ Hk
  iapply (Rounds.wp_signal 𝒱₀ ER (sched Pv) (c : Thread nD τ) none (dst := (pr 0 c : Thread nD τ)) (sem := barS) (r := 0) (d := 0) (κ := K (barCell (pr 0 c)))
      (by rw [duties_bar]; decide) (amount_bar Pv (pr 0 c) 0) 1 (owed c 17) rfl) $$ [HO Ht0 Ho0]
  · isplitr; · iapply (inv_bar Pv K (pr 0 c)); iexact HI
    isplitl [HO]; · iexact HO
    isplitl [Ht0]; · iexact Ht0
    isplitl [Ho0]
    · rw [payload_bar, pr_pr]; iexact Ho0
    iexact Hr0
  iintro HO
  iapply (Rounds.wp_signal 𝒱₀ ER (sched Pv) (c : Thread nD τ) none (dst := (pr 1 c : Thread nD τ)) (sem := barS) (r := 0) (d := 1) (κ := K (barCell (pr 1 c)))
      (by rw [duties_bar]; decide) (amount_bar Pv (pr 1 c) 1) 1 (owed c 16) rfl) $$ [HO Ht1 Ho1]
  · isplitr; · iapply (inv_bar Pv K (pr 1 c)); iexact HI
    isplitl [HO]; · iexact HO
    isplitl [Ht1]; · iexact Ht1
    isplitl [Ho1]
    · rw [payload_bar, pr_pr]; iexact Ho1
    iexact Hr1
  iintro HO
  iapply (Rounds.wp_wait_rest_token 𝒱₀ ER (sched Pv) (c : Thread nD τ) none (κ := K (barCell c))
      (wpE_semWait_eq 𝒱₀ (c : Thread nD τ) none Set.univ) (Set.mem_univ _) 1 (O := owed c 16) (W := W) (R := 0) (m := 0) (T := ∅)
      (by rw [expect_bar])) $$ [Hc HO Ha]
  · isplitr; · iapply (inv_bar Pv K c); iexact HI
    isplitl [Hc]; · iexact Hc
    isplitl [HO]; · iexact HO
    isplitr; · iapply (mayWait c (.reg barS) 1 16 (by decide) (by revert c; decide)); iexact Hlev
    iexact Ha
  iintro ⟨HO, Ha, -, Hpay⟩
  ihave Hp := (Entails.of_eq (rest_bar Pv c)) $$ Hpay
  icases Hp with ⟨Hp0, Hp1⟩
  iapply Hk
  isplitl [Ha]; · iexact Ha
  isplitl [Hp0]; · iexact Hp0
  isplitl [Hp1] <;> iassumption

end Landings

end Cert.KernelIdeal.Talk

end
-- ==== Proof.KernelIdeal.Flat.lean ====
/-
The body of the fused kernel, respelt by its blocks: the entry barrier, then for each of the four query blocks its eight
heads, the partial product, its two copies of the first exchange, and (one block behind) the two copies of the second
exchange; last, the rows of the result. The respelling is definitionally the printed body.
-/
module

public import proofs.«01_k».proof.Proof.KernelIdeal.Send

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig ℕ (Elt F) ℕ UU ℕ

/-- A program of the kernel's thread. -/
abbrev Pg (F : FTy → Type) : Type 1 := Prog (TpuEff nD τ sig (Elt F) Λ₀ .tc) PUnit

/-! ## The values -/

/-- A head's running row sums and its running unnormalised context. -/
abbrev Acc (F : FTy → Type) : Type := FVec F S512x1 .f32 × FVec F S512x128 .f32

/-- Both start at zero. -/
def acc0 : Acc F := (broadcast S512x1 (Scalar.ofBits .f32 0x00000000#32), broadcast S512x128 (Scalar.ofBits .f32 0x00000000#32))
/-- The scores of a query block against a key block. -/
def scores (xq : Vec F S512x128 .bf16) (xk : Vec F S1x512x128 .bf16) : FVec F S512x512 .f32 :=
  matmul dot_S512x128_S512x128_S512x512_1_1_0_0_n_n none (shapeCast S512x128 xq shapeCasts_S512x128_S512x128 : FVec F S512x128 .bf16)
    (shapeCast S512x128 xk shapeCasts_S1x512x128_S512x128 : FVec F S512x128 .bf16) (constant S512x512 .f32 0x00000000#32)
/-- The weights of a key block wholly before the query block. -/
def offW (s : FVec F S512x512 .f32) : FVec F S512x512 .f32 := exp s
/-- The weights of the diagonal key block: nothing past the query's block of 64. -/
def diagW (s : FVec F S512x512 .f32) : FVec F S512x512 .f32 :=
  k1_pay8 s (iota .tc S512x512 32 [0] iota_S512x512_d0_w32) 64#32 k1_pay6 k1_pay7 (Scalar.cmpi .sgt 64#32 0#32)
/-- One key block more. -/
def step (a : Acc F) (w : FVec F S512x512 .f32) (xv : Vec F S1x512x128 .bf16) : Acc F :=
  (addf a.1 (shapeCast S512x1 (multiReduction .add [1] S512 w 0x00000000#32 reduces_S512x512_S512 (.inl rfl) rfl) shapeCasts_S512_S512x1),
   addf a.2 (matmul dot_S512x512_S512x128_S512x128_1_0_0_1_n_n none (truncf .bf16 w bitsLt_bf16_f32)
      (shapeCast S512x128 xv shapeCasts_S1x512x128_S512x128 : FVec F S512x128 .bf16) (constant S512x128 .f32 0x00000000#32)))
/-- The head's context: normalised, rounded. -/
def headOut (a : Acc F) : FVec F S512x128 .bf16 :=
  shapeCast S512x128 (truncf .bf16 (divf a.2 (broadcastTo S512x128 a.1 broadcasts_S512x1_S512x128)) bitsLt_bf16_f32) shapeCasts_S512x128_S512x128
/-- A block's partial product: its context times the device's rows of the output weights, rounded. -/
def prod (xc : Vec F S512x1024 .bf16) (xw : Vec F S1024x1024 .bf16) : FVec F S512x1024 .bf16 :=
  shapeCast S512x1024 (truncf .bf16 (matmul dot_S512x1024_S1024x1024_S512x1024_1_0_0_1_n_n none (xc : FVec F S512x1024 .bf16)
    (shapeCast S1024x1024 xw shapeCasts_S1024x1024_S1024x1024 : FVec F S1024x1024 .bf16) (constant S512x1024 .f32 0x00000000#32)) bitsLt_bf16_f32)
    shapeCasts_S512x1024_S512x1024
/-- What the first exchange leaves: own rows plus the partner's. -/
def addTo (xp : Vec F S256x1024 .bf16) (xr : Vec F S1x1x256x1024 .bf16) : FVec F S1x1x256x1024 .bf16 :=
  shapeCast S1x1x256x1024 (addf (xp : FVec F S256x1024 .bf16) (shapeCast S256x1024 xr shapeCasts_S1x1x256x1024_S256x1024 : FVec F S256x1024 .bf16)) shapeCasts_S256x1024_S1x1x256x1024
/-- What the second exchange leaves: the sum, and the other partner's. -/
def addOut (xs xr : Vec F S1x1x256x1024 .bf16) : FVec F S256x1024 .f32 :=
  addf (extf .f32 (shapeCast S256x1024 xs shapeCasts_S1x1x256x1024_S256x1024 : FVec F S256x1024 .bf16) bitsLt_bf16_f32)
    (extf .f32 (shapeCast S256x1024 xr shapeCasts_S1x1x256x1024_S256x1024 : FVec F S256x1024 .bf16) bitsLt_bf16_f32)

/-! ## Where things lie -/

theorem inbQ (q : Fin 4) (h : Fin 8) : ∀ a, (![512 * q.val, 128 * h.val] : Fin 2 → ℕ) a + S512x128.size a ≤ S2048x1024.size a := by
  revert q h; decide
theorem inbKV (h : Fin 8) (j : Fin 4) : ∀ a, (![h.val, 512 * j.val, 0] : Fin 3 → ℕ) a + S1x512x128.size a ≤ S8x2048x128.size a := by
  revert h j; decide
theorem inbC (h : Fin 8) : ∀ a, (![0, 128 * h.val] : Fin 2 → ℕ) a + S512x128.size a ≤ S512x1024.size a := by
  revert h; decide
theorem inbW (q : Fin 4) : ∀ a, (![512 * q.val, 0] : Fin 2 → ℕ) a + S512x1024.size a ≤ S2048x1024.size a := by
  revert q; decide

/-- A head's columns of a query block; of the context; a head's rows of keys or values; a query block's rows. -/
abbrev rQ (q : Fin 4) (h : Fin 8) : Rect S2048x1024 := Rect.unit (s := S2048x1024) ![512 * q.val, 128 * h.val] S512x128.size (inbQ q h)
abbrev rC (h : Fin 8) : Rect S512x1024 := Rect.unit (s := S512x1024) ![0, 128 * h.val] S512x128.size (inbC h)
abbrev rKV (h : Fin 8) (j : Fin 4) : Rect S8x2048x128 := Rect.unit (s := S8x2048x128) ![h.val, 512 * j.val, 0] S1x512x128.size (inbKV h j)
abbrev rW (q : Fin 4) : Rect S2048x1024 := Rect.unit (s := S2048x1024) ![512 * q.val, 0] S512x1024.size (inbW q)
abbrev rP (q : Fin 4) (b : Fin 2) : Rect S2048x1024 := Rect.unit (s := S2048x1024) ![512 * q.val + 256 * b.val, 0] S256x1024.size (inbP q b)
abbrev rS (q : Fin 4) (b : Fin 2) : Rect S4x2x256x1024 := Rect.unit (s := S4x2x256x1024) ![q.val, b.val, 0, 0] S1x1x256x1024.size (inbS q b)

theorem packC (h : Fin 8) : (rC h).PackedRows (EltTy.packing .bf16) := match h with
  | 0 => packedbf16_S512x1024_S512x128_0_0
  | 1 => packedbf16_S512x1024_S512x128_0_128
  | 2 => packedbf16_S512x1024_S512x128_0_256
  | 3 => packedbf16_S512x1024_S512x128_0_384
  | 4 => packedbf16_S512x1024_S512x128_0_512
  | 5 => packedbf16_S512x1024_S512x128_0_640
  | 6 => packedbf16_S512x1024_S512x128_0_768
  | 7 => packedbf16_S512x1024_S512x128_0_896
theorem packW (q : Fin 4) : (rW q).PackedRows (EltTy.packing .bf16) := match q with
  | 0 => packedbf16_S2048x1024_S512x1024_0_0
  | 1 => packedbf16_S2048x1024_S512x1024_512_0
  | 2 => packedbf16_S2048x1024_S512x1024_1024_0
  | 3 => packedbf16_S2048x1024_S512x1024_1536_0
theorem packS (q : Fin 4) (b : Fin 2) : (rS q b).PackedRows (EltTy.packing .bf16) := match q, b with
  | 0, 0 => packedbf16_S4x2x256x1024_S1x1x256x1024_0_0_0_0
  | 0, 1 => packedbf16_S4x2x256x1024_S1x1x256x1024_0_1_0_0
  | 1, 0 => packedbf16_S4x2x256x1024_S1x1x256x1024_1_0_0_0
  | 1, 1 => packedbf16_S4x2x256x1024_S1x1x256x1024_1_1_0_0
  | 2, 0 => packedbf16_S4x2x256x1024_S1x1x256x1024_2_0_0_0
  | 2, 1 => packedbf16_S4x2x256x1024_S1x1x256x1024_2_1_0_0
  | 3, 0 => packedbf16_S4x2x256x1024_S1x1x256x1024_3_0_0_0
  | 3, 1 => packedbf16_S4x2x256x1024_S1x1x256x1024_3_1_0_0
theorem wordP (q : Fin 4) (b : Fin 2) : (rP q b).WholeWords (EltTy.packing .bf16) := match q, b with
  | 0, 0 => wordsbf16_S2048x1024_S256x1024_0_0
  | 0, 1 => wordsbf16_S2048x1024_S256x1024_256_0
  | 1, 0 => wordsbf16_S2048x1024_S256x1024_512_0
  | 1, 1 => wordsbf16_S2048x1024_S256x1024_768_0
  | 2, 0 => wordsbf16_S2048x1024_S256x1024_1024_0
  | 2, 1 => wordsbf16_S2048x1024_S256x1024_1280_0
  | 3, 0 => wordsbf16_S2048x1024_S256x1024_1536_0
  | 3, 1 => wordsbf16_S2048x1024_S256x1024_1792_0
theorem wordS (q : Fin 4) (b : Fin 2) : (rS q b).WholeWords (EltTy.packing .bf16) := match q, b with
  | 0, 0 => wordsbf16_S4x2x256x1024_S1x1x256x1024_0_0_0_0
  | 0, 1 => wordsbf16_S4x2x256x1024_S1x1x256x1024_0_1_0_0
  | 1, 0 => wordsbf16_S4x2x256x1024_S1x1x256x1024_1_0_0_0
  | 1, 1 => wordsbf16_S4x2x256x1024_S1x1x256x1024_1_1_0_0
  | 2, 0 => wordsbf16_S4x2x256x1024_S1x1x256x1024_2_0_0_0
  | 2, 1 => wordsbf16_S4x2x256x1024_S1x1x256x1024_2_1_0_0
  | 3, 0 => wordsbf16_S4x2x256x1024_S1x1x256x1024_3_0_0_0
  | 3, 1 => wordsbf16_S4x2x256x1024_S1x1x256x1024_3_1_0_0

theorem pM_words (q : Fin 4) (b : Fin 2) : (pM q b).view.WordExact := (Memref.isWhole_whole cc1_scratch1).wordExact_slice rfl _ (wordP q b)
theorem slot_words2 (q : Fin 4) (b : Fin 2) : (slot (Memref.whole cc1_scratch2) q b).view.WordExact :=
  ((Memref.isWhole_whole cc1_scratch2).wordExact_slice rfl _ (wordS q b)).reshape _ _
theorem slot_words3 (q : Fin 4) (b : Fin 2) : (slot (Memref.whole cc1_scratch3) q b).view.WordExact :=
  ((Memref.isWhole_whole cc1_scratch3).wordExact_slice rfl _ (wordS q b)).reshape _ _
theorem slot_words4 (q : Fin 4) (b : Fin 2) : (slot (Memref.whole cc1_scratch4) q b).view.WordExact :=
  ((Memref.isWhole_whole cc1_scratch4).wordExact_slice rfl _ (wordS q b)).reshape _ _

/-! ## The pieces of the body -/

def ldQ (q : Fin 4) (h : Fin 8) (k : Vec F S512x128 .bf16 → Pg F) : Pg F :=
  .op (.load (Memref.whole cc1_stg0_0) (rQ q h).toLoadRect (View.loadsAt_vmem h_S512x128)) k
def ldK (h : Fin 8) (j : Fin 4) (k : Vec F S1x512x128 .bf16 → Pg F) : Pg F :=
  .op (.load (Memref.whole cc1_stg1_0) (rKV h j).toLoadRect (View.loadsAt_vmem h_S1x512x128)) k
def ldV (h : Fin 8) (j : Fin 4) (k : Vec F S1x512x128 .bf16 → Pg F) : Pg F :=
  .op (.load (Memref.whole cc1_stg2_0) (rKV h j).toLoadRect (View.loadsAt_vmem h_S1x512x128)) k

/-- The key blocks before a query block. -/
def below (q : Fin 4) : List (Fin 4) := match q with | 0 => [] | 1 => [0] | 2 => [0, 1] | 3 => [0, 1, 2]

/-- A head over the key blocks before its own. -/
def offB (h : Fin 8) (xq : Vec F S512x128 .bf16) : List (Fin 4) → Acc F → (Acc F → Pg F) → Pg F
  | [], a, k => k a
  | j :: js, a, k => ldK h j fun xk => ldV h j fun xv => offB h xq js (step a (offW (scores xq xk)) xv) k

/-- One head of one query block. -/
def head (q : Fin 4) (h : Fin 8) (k : Pg F) : Pg F :=
  ldQ q h fun xq => offB h xq (below q) acc0 fun a => ldK h q fun xk => ldV h q fun xv =>
    .op (.load (Memref.whole cc1_scratch0) (rC h).toLoadRect (View.loadsAt_vmem h_S512x128)) fun _ =>
    .op (.store (Memref.whole cc1_scratch0) (rC h) (headOut (step a (diagW (scores xq xk)) xv)) Finset.univ
      (View.stores_vmem h_S512x128 ((Memref.isWhole_whole cc1_scratch0).storeExact_slice rfl _ (packC h)) (fun _ => rfl)) (.inl rfl)) fun _ => k
/-- The eight heads of a query block. -/
def heads (q : Fin 4) (k : Pg F) : Pg F :=
  head q 0 <| head q 1 <| head q 2 <| head q 3 <| head q 4 <| head q 5 <| head q 6 <| head q 7 k
/-- The block's partial product. -/
def stP (q : Fin 4) (xw : Vec F S1024x1024 .bf16) (k : Pg F) : Pg F :=
  .op (.load (Memref.whole cc1_scratch0) (Rect.unit (s := S512x1024) ![0, 0] S512x1024.size inb_S512x1024_S512x1024_0_0).toLoadRect (View.loadsAt_vmem h_S512x1024)) fun xc =>
  .op (.load (Memref.whole cc1_scratch1) (rW q).toLoadRect (View.loadsAt_vmem h_S512x1024)) fun _ =>
  .op (.store (Memref.whole cc1_scratch1) (rW q) (prod xc xw) Finset.univ
    (View.stores_vmem h_S512x1024 ((Memref.isWhole_whole cc1_scratch1).storeExact_slice rfl _ (packW q)) (fun _ => rfl)) (.inl rfl)) fun _ => k
/-- A copy of the first exchange, to device c'. -/
def enq1 (c' : Dev nD) (q : Fin 4) (b : Fin 2) (k : Pg F) : Pg F :=
  .op (.enqueueDma (pM q b) (.remote (Dev.tc c') (slot (Memref.whole cc1_scratch3) q b) (.dma (sm 0 q b))) (.dma (sm 1 q b))
    (pM_words q b) (slot_words3 q b) ⟨⟨rfl, Or.inl rfl⟩, trivial⟩) fun _ => k
/-- A copy of the second exchange, to device c'. -/
def enq2 (c' : Dev nD) (q : Fin 4) (b : Fin 2) (k : Pg F) : Pg F :=
  .op (.enqueueDma (slot (Memref.whole cc1_scratch2) q b) (.remote (Dev.tc c') (slot (Memref.whole cc1_scratch4) q b) (.dma (sm 2 q b))) (.dma (sm 3 q b))
    (slot_words2 q b) (slot_words4 q b) ⟨⟨rfl, Or.inl rfl⟩, trivial⟩) fun _ => k
/-- The two waits of a copy of the first exchange: departure, arrival. -/
def wt1 (q : Fin 4) (b : Fin 2) (k : Pg F) : Pg F :=
  .op (.waitDma2 (sm 0 q b) (slot (Memref.whole cc1_scratch3) q b) (pM q b) (slot_words3 q b) (pM_words q b)) fun _ =>
  .op (.waitDma2 (sm 1 q b) (pM q b) (slot (Memref.whole cc1_scratch3) q b) (pM_words q b) (slot_words3 q b)) fun _ => k
/-- The two waits of a copy of the second exchange. -/
def wt2 (q : Fin 4) (b : Fin 2) (k : Pg F) : Pg F :=
  .op (.waitDma2 (sm 2 q b) (slot (Memref.whole cc1_scratch4) q b) (slot (Memref.whole cc1_scratch2) q b) (slot_words4 q b) (slot_words2 q b)) fun _ =>
  .op (.waitDma2 (sm 3 q b) (slot (Memref.whole cc1_scratch2) q b) (slot (Memref.whole cc1_scratch4) q b) (slot_words2 q b) (slot_words4 q b)) fun _ => k
/-- Half a block's sum with what arrived first. -/
def stS (q : Fin 4) (b : Fin 2) (k : Pg F) : Pg F :=
  .op (.load (Memref.whole cc1_scratch1) (rP q b).toLoadRect (View.loadsAt_vmem h_S256x1024)) fun xp =>
  .op (.load (Memref.whole cc1_scratch3) (rS q b).toLoadRect (View.loadsAt_vmem h_S1x1x256x1024)) fun xr =>
  .op (.load (Memref.whole cc1_scratch2) (rS q b).toLoadRect (View.loadsAt_vmem h_S1x1x256x1024)) fun _ =>
  .op (.store (Memref.whole cc1_scratch2) (rS q b) (addTo xp xr) Finset.univ
    (View.stores_vmem h_S1x1x256x1024 ((Memref.isWhole_whole cc1_scratch2).storeExact_slice rfl _ (packS q b)) (fun _ => rfl)) (.inl rfl)) fun _ => k
/-- Half a block's rows of the result. -/
def stO (q : Fin 4) (b : Fin 2) (k : Pg F) : Pg F :=
  .op (.load (Memref.whole cc1_scratch2) (rS q b).toLoadRect (View.loadsAt_vmem h_S1x1x256x1024)) fun xs =>
  .op (.load (Memref.whole cc1_scratch4) (rS q b).toLoadRect (View.loadsAt_vmem h_S1x1x256x1024)) fun xr =>
  .op (.load (Memref.whole cc1_stg4_0) (rP q b).toLoadRect (View.loadsAt_vmem h_S256x1024)) fun _ =>
  .op (.store (Memref.whole cc1_stg4_0) (rP q b) (addOut xs xr) Finset.univ (View.stores_vmem_bits_univ h_S256x1024 rfl) (.inl rfl)) fun _ => k

/-- A block's compute and its copies of the first exchange. -/
def blk (q : Fin 4) (c1 c2 : Dev nD) (xw : Vec F S1024x1024 .bf16) (k : Pg F) : Pg F := heads q <| stP q xw <| enq1 c1 q 0 <| enq1 c2 q 1 k
/-- A block's end of the first exchange and its copies of the second. -/
def fin1 (q : Fin 4) (c1 c2 : Dev nD) (k : Pg F) : Pg F := wt1 q 0 <| wt1 q 1 <| stS q 0 <| stS q 1 <| enq2 c1 q 0 <| enq2 c2 q 1 k
/-- A block's end of the second exchange and its rows of the result. -/
def fin2 (q : Fin 4) (k : Pg F) : Pg F := wt2 q 0 <| wt2 q 1 <| stO q 0 <| stO q 1 k

/-- The body at its own device number. -/
def megaAt (d0 : Dev nD) : Pg F :=
  .op (.semSignal (Dev.tc (⟨k1_dev1 d0, k1_dev1_lt d0⟩ : Dev nD)) barS 1) fun _ =>
  .op (.semSignal (Dev.tc (⟨k1_dev2 d0, k1_dev2_lt d0⟩ : Dev nD)) barS 1) fun _ =>
  .op (.semWait barS 2) fun _ =>
  .op (.load (Memref.whole cc1_stg3_0) (Rect.unit (s := S1024x1024) ![0, 0] S1024x1024.size inb_S1024x1024_S1024x1024_0_0).toLoadRect (View.loadsAt_vmem h_S1024x1024)) fun xw =>
  blk 0 ⟨k1_dev3 d0, k1_dev3_lt d0⟩ ⟨k1_dev4 d0, k1_dev4_lt d0⟩ xw <|
  blk 1 ⟨k1_dev5 d0, k1_dev5_lt d0⟩ ⟨k1_dev6 d0, k1_dev6_lt d0⟩ xw <|
  fin1 0 ⟨k1_dev7 d0, k1_dev7_lt d0⟩ ⟨k1_dev8 d0, k1_dev8_lt d0⟩ <|
  blk 2 ⟨k1_dev9 d0, k1_dev9_lt d0⟩ ⟨k1_dev10 d0, k1_dev10_lt d0⟩ xw <|
  fin1 1 ⟨k1_dev11 d0, k1_dev11_lt d0⟩ ⟨k1_dev12 d0, k1_dev12_lt d0⟩ <|
  blk 3 ⟨k1_dev13 d0, k1_dev13_lt d0⟩ ⟨k1_dev14 d0, k1_dev14_lt d0⟩ xw <|
  fin1 2 ⟨k1_dev15 d0, k1_dev15_lt d0⟩ ⟨k1_dev16 d0, k1_dev16_lt d0⟩ <|
  fin1 3 ⟨k1_dev17 d0, k1_dev17_lt d0⟩ ⟨k1_dev18 d0, k1_dev18_lt d0⟩ <|
  fin2 0 <| fin2 1 <| fin2 2 <| fin2 3 <| .ret ⟨⟩
/-- The whole body. -/
def mega : Pg F := .op .deviceId megaAt

/-- The printed body at the kernel's buffers. -/
abbrev printed : Pg F :=
  cc1__mega_body (Memref.whole cc1_stg0_0) (Memref.isWhole_whole _) (Memref.whole cc1_stg1_0) (Memref.isWhole_whole _) (Memref.whole cc1_stg2_0) (Memref.isWhole_whole _)
    (Memref.whole cc1_stg3_0) (Memref.isWhole_whole _) (Memref.whole cc1_stg4_0) (Memref.isWhole_whole _) (Memref.whole cc1_scratch0) (Memref.isWhole_whole _)
    (Memref.whole cc1_scratch1) (Memref.isWhole_whole _) (Memref.whole cc1_scratch2) (Memref.isWhole_whole _) (Memref.whole cc1_scratch3) (Memref.isWhole_whole _)
    (Memref.whole cc1_scratch4) (Memref.isWhole_whole _) cc1_scratch5 cc1_scratch6 cc1_scratch7 cc1_scratch8

set_option maxRecDepth 65536 in
/-- The respelling is the printed body. -/
theorem printed_eq : printed (F := F) = mega := by
  unfold printed
  rw [cc1__mega_body_eq_skeleton]
  rfl

end Cert.KernelIdeal.Talk

end
-- ==== Proof.KernelIdeal.Body.lean ====
/-
The values the fused kernel computes, and each piece of its body run on the buffers it touches.
-/
module

public import proofs.«01_k».proof.Proof.KernelIdeal.Flat

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig ℕ (Elt F) ℕ UU ℕ

/-! ## Values -/

def getQ (q : Fin 4) (h : Fin 8) (aq : Vec F S2048x1024 .bf16) : Vec F S512x128 .bf16 := fun x => aq ((rQ q h).toLoadRect.idx x)
def getKV (h : Fin 8) (j : Fin 4) (ak : Vec F S8x2048x128 .bf16) : Vec F S1x512x128 .bf16 := fun x => ak ((rKV h j).toLoadRect.idx x)
def getS (q : Fin 4) (b : Fin 2) (f : Vec F S4x2x256x1024 .bf16) : Vec F S1x1x256x1024 .bf16 := fun x => f ((rS q b).toLoadRect.idx x)
def getP (q : Fin 4) (b : Fin 2) (f : Vec F S2048x1024 .bf16) : Vec F S256x1024 .bf16 := fun x => f ((rP q b).toLoadRect.idx x)

section Vals

variable (aq : Vec F S2048x1024 .bf16) (ak av : Vec F S8x2048x128 .bf16) (aw : Vec F S1024x1024 .bf16)

/-- A head's sums over the key blocks of a list. -/
def accOver (h : Fin 8) (xq : Vec F S512x128 .bf16) : List (Fin 4) → Acc F → Acc F
  | [], a => a
  | j :: js, a => accOver h xq js (step a (offW (scores xq (getKV h j ak))) (getKV h j av))
/-- A head of a query block, from its queries. -/
def headOf (q : Fin 4) (h : Fin 8) (xq : Vec F S512x128 .bf16) : FVec F S512x128 .bf16 :=
  headOut (step (accOver ak av h xq (below q) acc0) (diagW (scores xq (getKV h q ak))) (getKV h q av))
/-- The context of a query block: head by head. -/
def ctxOf (q : Fin 4) : Vec F S512x1024 .bf16 := fun i =>
  headOf ak av q ⟨(i 1).val / 128, by have : (i 1).val < 1024 := (i 1).2; omega⟩
    (getQ q ⟨(i 1).val / 128, by have : (i 1).val < 1024 := (i 1).2; omega⟩ aq)
    (ix2 (n0 := 512) (n1 := 128) (i 0) ⟨(i 1).val % 128, Nat.mod_lt _ (by decide)⟩)
/-- The device's partial product. -/
def partOf : Vec F S2048x1024 .bf16 := fun i =>
  prod (ctxOf aq ak av ⟨(i 0).val / 512, by have : (i 0).val < 2048 := (i 0).2; omega⟩) aw
    (ix2 (n0 := 512) (n1 := 1024) ⟨(i 0).val % 512, Nat.mod_lt _ (by decide)⟩ (i 1))

end Vals

/-- The result's rows, from the two buffers of slots. -/
def outOf (s r : Vec F S4x2x256x1024 .bf16) : Vec F S2048x1024 .f32 := fun i =>
  addOut (getS ⟨(i 0).val / 512, by have : (i 0).val < 2048 := (i 0).2; omega⟩ ⟨(i 0).val / 256 % 2, Nat.mod_lt _ (by decide)⟩ s)
    (getS ⟨(i 0).val / 512, by have : (i 0).val < 2048 := (i 0).2; omega⟩ ⟨(i 0).val / 256 % 2, Nat.mod_lt _ (by decide)⟩ r)
    (ix2 (n0 := 256) (n1 := 1024) ⟨(i 0).val % 256, Nat.mod_lt _ (by decide)⟩ (i 1))

/-! ## Which elements a piece is -/

theorem set2 (q : Fin 4) (b : Fin 2) (i : S4x2x256x1024.Idx) : i ∈ (slot (Memref.whole cc1_scratch2) q b).view.set ↔ i 0 = q ∧ i 1 = b := by
  constructor
  · intro h; obtain ⟨x, y, rfl⟩ := mem_slot _ q b h; exact ⟨rfl, rfl⟩
  · rintro ⟨rfl, rfl⟩
    exact Finset.mem_map.mpr ⟨ix2 (i 2) (i 3), Finset.mem_univ _, (slot_emb (Memref.whole cc1_scratch2) (i 0) (i 1) (i 2) (i 3)).trans (eq_ix4 i).symm⟩
theorem set3 (q : Fin 4) (b : Fin 2) (i : S4x2x256x1024.Idx) : i ∈ (slot (Memref.whole cc1_scratch3) q b).view.set ↔ i 0 = q ∧ i 1 = b := set2 q b i
theorem set4 (q : Fin 4) (b : Fin 2) (i : S4x2x256x1024.Idx) : i ∈ (slot (Memref.whole cc1_scratch4) q b).view.set ↔ i 0 = q ∧ i 1 = b := set2 q b i
theorem setP (q : Fin 4) (b : Fin 2) (i : S2048x1024.Idx) : i ∈ (pM q b).view.set ↔ (i 0).val / 256 = 2 * q.val + b.val := by
  constructor
  · intro h; obtain ⟨j, -, rfl⟩ := Finset.mem_map.mp h
    have hj : (j 0).val < 256 := (j 0).2
    show (512 * q.val + 256 * b.val + 1 * (j 0).val) / 256 = _
    omega
  · intro h
    refine Finset.mem_map.mpr ⟨ix2 (⟨(i 0).val % 256, Nat.mod_lt _ (by decide)⟩ : Fin 256) (i 1), Finset.mem_univ _, ?_⟩
    refine funext fun a => Fin.ext ?_
    match a with
    | ⟨0, _⟩ => show 512 * q.val + 256 * b.val + 1 * ((i 0).val % 256) = (i 0).val; omega
    | ⟨1, _⟩ => show 0 + 1 * (i 1).val = (i 1).val; omega

/-- Rows of a query block. -/
abbrev wV (q : Fin 4) : View sig .tc .vmem S512x1024 .bf16 := (Memref.whole cc1_scratch1).access (rW q)
theorem wV_emb (q : Fin 4) (i : S2048x1024.Idx) (h : (i 0).val / 512 = q.val) :
    (wV q).emb (ix2 (⟨(i 0).val % 512, Nat.mod_lt _ (by decide)⟩ : Fin 512) (i 1)) = i := by
  refine funext fun a => Fin.ext ?_
  match a with
  | ⟨0, _⟩ => show 512 * q.val + 1 * ((i 0).val % 512) = (i 0).val; omega
  | ⟨1, _⟩ => show 0 + 1 * (i 1).val = (i 1).val; omega
theorem setW (q : Fin 4) (i : S2048x1024.Idx) : i ∈ (wV q).set ↔ (i 0).val / 512 = q.val := by
  constructor
  · intro h; obtain ⟨j, -, rfl⟩ := Finset.mem_map.mp h
    have hj : (j 0).val < 512 := (j 0).2
    show (512 * q.val + 1 * (j 0).val) / 512 = _
    omega
  · intro h
    exact Finset.mem_map.mpr ⟨_, Finset.mem_univ _, wV_emb q i h⟩

/-! ## Stores, elementwise -/

theorem put_at {sp : Space} {S : Shape} {e : EltTy} (v : View sig .tc sp S e) (f : v.ty.Contents (Elt F)) (w : S.Idx → Elt F e) {i : v.ty.Idx} {x : S.Idx}
    (h : v.emb x = i) : v.write (Elt F) f w Finset.univ i = _root_.cast (congrArg (Elt F) v.elt_eq.symm) (w x) := by
  subst h; exact View.write_emb_of_mem f w (Finset.mem_univ _)

theorem put_off {sp : Space} {S : Shape} {e : EltTy} (v : View sig .tc sp S e) (f : v.ty.Contents (Elt F)) (w : S.Idx → Elt F e) {i : v.ty.Idx}
    (h : ∀ x, v.emb x ≠ i) : v.write (Elt F) f w Finset.univ i = f i :=
  View.write_of_not_mem f w Finset.univ fun hm => by
    obtain ⟨x, -, hx⟩ := Finset.mem_map.mp hm
    exact h x hx

/-- A head's columns of the context after its store. -/
theorem putC_at (h : Fin 8) (f : Vec F S512x1024 .bf16) (w : FVec F S512x128 .bf16) (i : S512x1024.Idx) :
    ((Memref.whole cc1_scratch0).access (rC h)).write (Elt F) f w Finset.univ i
      = if (i 1).val / 128 = h.val then w (ix2 (n0 := 512) (n1 := 128) (i 0) ⟨(i 1).val % 128, Nat.mod_lt _ (by decide)⟩) else f i := by
  by_cases hi : (i 1).val / 128 = h.val
  · have e : ((Memref.whole cc1_scratch0).access (rC h)).emb (ix2 (n0 := 512) (n1 := 128) (i 0) ⟨(i 1).val % 128, Nat.mod_lt _ (by decide)⟩) = i := by
      refine funext fun a => Fin.ext ?_
      match a with
      | ⟨0, _⟩ => show 0 + 1 * (i 0).val = (i 0).val; omega
      | ⟨1, _⟩ => show 128 * h.val + 1 * ((i 1).val % 128) = (i 1).val; omega
    exact (put_at ((Memref.whole cc1_scratch0).access (rC h)) f w e).trans (if_pos hi).symm
  · refine (put_off ((Memref.whole cc1_scratch0).access (rC h)) f w fun j hx => hi ?_).trans (if_neg hi).symm
    subst hx
    have hj : (j 1).val < 128 := (j 1).2
    show (128 * h.val + 1 * (j 1).val) / 128 = _
    omega
/-- Half a block's rows of the result after their store. -/
theorem putO_at (q : Fin 4) (b : Fin 2) (f : Vec F S2048x1024 .f32) (w : FVec F S256x1024 .f32) (i : S2048x1024.Idx) :
    ((Memref.whole cc1_stg4_0).access (rP q b)).write (Elt F) f w Finset.univ i
      = if (i 0).val / 256 = 2 * q.val + b.val then w (ix2 (n0 := 256) (n1 := 1024) ⟨(i 0).val % 256, Nat.mod_lt _ (by decide)⟩ (i 1)) else f i := by
  by_cases hi : (i 0).val / 256 = 2 * q.val + b.val
  · have e : ((Memref.whole cc1_stg4_0).access (rP q b)).emb (ix2 (n0 := 256) (n1 := 1024) ⟨(i 0).val % 256, Nat.mod_lt _ (by decide)⟩ (i 1)) = i := by
      refine funext fun a => Fin.ext ?_
      match a with
      | ⟨0, _⟩ => show 512 * q.val + 256 * b.val + 1 * ((i 0).val % 256) = (i 0).val; omega
      | ⟨1, _⟩ => show 0 + 1 * (i 1).val = (i 1).val; omega
    exact (put_at ((Memref.whole cc1_stg4_0).access (rP q b)) f w e).trans (if_pos hi).symm
  · refine (put_off ((Memref.whole cc1_stg4_0).access (rP q b)) f w fun j hx => hi ?_).trans (if_neg hi).symm
    subst hx
    have hj : (j 0).val < 256 := (j 0).2
    show (512 * q.val + 256 * b.val + 1 * (j 0).val) / 256 = _
    omega
/-- A query block's rows of the partial products after their store. -/
theorem putW_at (q : Fin 4) (f : Vec F S2048x1024 .bf16) (w : FVec F S512x1024 .bf16) (i : S2048x1024.Idx) (hi : (i 0).val / 512 = q.val) :
    (wV q).write (Elt F) f w Finset.univ i = w (ix2 (n0 := 512) (n1 := 1024) ⟨(i 0).val % 512, Nat.mod_lt _ (by decide)⟩ (i 1)) :=
  put_at (wV q) f w (wV_emb q i hi)
/-- A slot of the sums after its store. -/
theorem putS_at (q : Fin 4) (b : Fin 2) (f : Vec F S4x2x256x1024 .bf16) (w : FVec F S1x1x256x1024 .bf16) (i : S4x2x256x1024.Idx) (h0 : i 0 = q) (h1 : i 1 = b) :
    ((Memref.whole cc1_scratch2).access (rS q b)).write (Elt F) f w Finset.univ i = w (ix4 (n0 := 1) (n1 := 1) (n2 := 256) (n3 := 1024) 0 0 (i 2) (i 3)) := by
  have e : ((Memref.whole cc1_scratch2).access (rS q b)).emb (ix4 (n0 := 1) (n1 := 1) (n2 := 256) (n3 := 1024) 0 0 (i 2) (i 3)) = i := by
    refine funext fun a => Fin.ext ?_
    match a with
    | ⟨0, _⟩ => show q.val + 1 * 0 = (i 0).val; rw [h0]; omega
    | ⟨1, _⟩ => show b.val + 1 * 0 = (i 1).val; rw [h1]; omega
    | ⟨2, _⟩ => show 0 + 1 * (i 2).val = (i 2).val; omega
    | ⟨3, _⟩ => show 0 + 1 * (i 3).val = (i 3).val; omega
  exact put_at ((Memref.whole cc1_scratch2).access (rS q b)) f w e

/-! ## The pieces, run -/

/-- A whole buffer of device c's, held at `f`. -/
abbrev whole {sp : Space} {S : Shape} {e : EltTy} (c : Dev nD) (M : Memref sig .tc sp S e) (f : Buf (Elt F) (M.view.loc (c : Thread nD τ))) : sProp 𝕄 :=
  M.view.loc (c : Thread nD τ) ↦{fullShare} f

/-- The three operands a head reads. -/
def ins (c : Dev nD) (aq : Vec F S2048x1024 .bf16) (ak av : Vec F S8x2048x128 .bf16) : sProp 𝕄 :=
  iprop(whole c (Memref.whole cc1_stg0_0) aq ∗ whole c (Memref.whole cc1_stg1_0) ak ∗ whole c (Memref.whole cc1_stg2_0) av)

abbrev gos (c : Dev nD) (k : Pg F) (Q : PUnit.{1} → sProp 𝕄) : sProp 𝕄 := wp frame (wpE (defs₀ (F := F)) 𝒱₀ (c : Thread nD τ) none) Set.univ k Q

section Run

variable (c : Dev nD) (aq : Vec F S2048x1024 .bf16) (ak av : Vec F S8x2048x128 .bf16) (aw : Vec F S1024x1024 .bf16)

theorem run_ldQ (Q : PUnit.{1} → sProp 𝕄) (q : Fin 4) (h : Fin 8) (k : Vec F S512x128 .bf16 → Pg F) :
    ins c aq ak av ⊢ iprop((ins c aq ak av -∗ gos c (k (getQ q h aq)) Q) -∗ gos c (ldQ q h k) Q) := by
  unfold ins ldQ
  iintro ⟨Hq, Hk, Hv⟩ HQ
  iapply (wp_load 𝒱₀ (c : Thread nD τ) none Set.univ (m := Memref.whole cc1_stg0_0) (r := (rQ q h).toLoadRect) (Finset.subset_univ _)) $$ Hq
  iintro Hq
  iapply HQ
  isplitl [Hq]; · iexact Hq
  isplitl [Hk] <;> iassumption
theorem run_ldK (Q : PUnit.{1} → sProp 𝕄) (h : Fin 8) (j : Fin 4) (k : Vec F S1x512x128 .bf16 → Pg F) :
    ins c aq ak av ⊢ iprop((ins c aq ak av -∗ gos c (k (getKV h j ak)) Q) -∗ gos c (ldK h j k) Q) := by
  unfold ins ldK
  iintro ⟨Hq, Hk, Hv⟩ HQ
  iapply (wp_load 𝒱₀ (c : Thread nD τ) none Set.univ (m := Memref.whole cc1_stg1_0) (r := (rKV h j).toLoadRect) (Finset.subset_univ _)) $$ Hk
  iintro Hk
  iapply HQ
  isplitl [Hq]; · iexact Hq
  isplitl [Hk] <;> iassumption
theorem run_ldV (Q : PUnit.{1} → sProp 𝕄) (h : Fin 8) (j : Fin 4) (k : Vec F S1x512x128 .bf16 → Pg F) :
    ins c aq ak av ⊢ iprop((ins c aq ak av -∗ gos c (k (getKV h j av)) Q) -∗ gos c (ldV h j k) Q) := by
  unfold ins ldV
  iintro ⟨Hq, Hk, Hv⟩ HQ
  iapply (wp_load 𝒱₀ (c : Thread nD τ) none Set.univ (m := Memref.whole cc1_stg2_0) (r := (rKV h j).toLoadRect) (Finset.subset_univ _)) $$ Hv
  iintro Hv
  iapply HQ
  isplitl [Hq]; · iexact Hq
  isplitl [Hk] <;> iassumption
/-- The key blocks before the query block. -/
theorem run_offB (Q : PUnit.{1} → sProp 𝕄) (h : Fin 8) (xq : Vec F S512x128 .bf16) (js : List (Fin 4)) (a : Acc F) (k : Acc F → Pg F) :
    ins c aq ak av ⊢ iprop((ins c aq ak av -∗ gos c (k (accOver ak av h xq js a)) Q) -∗ gos c (offB h xq js a k) Q) := by
  induction js generalizing a with
  | nil =>
    iintro H HQ
    iapply HQ; iexact H
  | cons j js ih =>
    iintro H HQ
    iapply (run_ldK c aq ak av Q h j _) $$ H
    iintro H
    iapply (run_ldV c aq ak av Q h j _) $$ H
    iintro H
    iapply (ih _) $$ H
    iexact HQ
/-- A head. -/
theorem run_head (Q : PUnit.{1} → sProp 𝕄) (q : Fin 4) (h : Fin 8) (f : Vec F S512x1024 .bf16) (k : Pg F) :
    iprop(ins c aq ak av ∗ whole c (Memref.whole cc1_scratch0) f)
      ⊢ iprop(((ins c aq ak av ∗ whole c (Memref.whole cc1_scratch0)
            (((Memref.whole cc1_scratch0).access (rC h)).write (Elt F) f (headOf ak av q h (getQ q h aq)) Finset.univ)) -∗ gos c k Q)
          -∗ gos c (head q h k) Q) := by
  iintro ⟨H, Hc⟩ HQ
  iapply (run_ldQ c aq ak av Q q h _) $$ H
  iintro H
  iapply (run_offB c aq ak av Q h _ _ _ _) $$ H
  iintro H
  iapply (run_ldK c aq ak av Q h q _) $$ H
  iintro H
  iapply (run_ldV c aq ak av Q h q _) $$ H
  iintro H
  iapply (wp_load 𝒱₀ (c : Thread nD τ) none Set.univ (m := Memref.whole cc1_scratch0) (r := (rC h).toLoadRect) (Finset.subset_univ _)) $$ Hc
  iintro Hc
  iapply (wp_store 𝒱₀ (c : Thread nD τ) none Set.univ (m := Memref.whole cc1_scratch0) (r := rC h) (Finset.subset_univ _)) $$ Hc
  iintro Hc
  iapply HQ
  isplitl [H]; · iexact H
  iexact Hc
/-- The eight heads. -/
theorem run_heads (Q : PUnit.{1} → sProp 𝕄) (q : Fin 4) (k : Pg F) :
    iprop(ins c aq ak av ∗ ∃ f, whole c (Memref.whole cc1_scratch0) f)
      ⊢ iprop(((ins c aq ak av ∗ whole c (Memref.whole cc1_scratch0) (ctxOf aq ak av q)) -∗ gos c k Q) -∗ gos c (heads q k) Q) := by
  unfold heads
  iintro ⟨H, %f, Hc⟩ HQ
  iapply (run_head c aq ak av Q q 0 _ _) $$ [H Hc]; · isplitl [H] <;> iassumption
  iintro H
  iapply (run_head c aq ak av Q q 1 _ _) $$ H
  iintro H
  iapply (run_head c aq ak av Q q 2 _ _) $$ H
  iintro H
  iapply (run_head c aq ak av Q q 3 _ _) $$ H
  iintro H
  iapply (run_head c aq ak av Q q 4 _ _) $$ H
  iintro H
  iapply (run_head c aq ak av Q q 5 _ _) $$ H
  iintro H
  iapply (run_head c aq ak av Q q 6 _ _) $$ H
  iintro H
  iapply (run_head c aq ak av Q q 7 _ _) $$ H
  iintro ⟨H, Hc⟩
  iapply HQ
  isplitl [H]; · iexact H
  have e : ∀ (g : Vec F S512x1024 .bf16), g = ctxOf aq ak av q → (whole c (Memref.whole cc1_scratch0) g : sProp 𝕄) ⊢ whole c (Memref.whole cc1_scratch0) (ctxOf aq ak av q) :=
    fun g hg => by rw [hg]
  iapply (e _ ?_) $$ Hc
  funext i
  have hi : (i 1).val < 1024 := (i 1).2
  have h8 : ∃ n : Fin 8, (i 1).val / 128 = n.val := ⟨⟨(i 1).val / 128, by omega⟩, rfl⟩
  obtain ⟨n, hn⟩ := h8
  have hc : ctxOf aq ak av q i = headOf ak av q n (getQ q n aq) (ix2 (n0 := 512) (n1 := 128) (i 0) ⟨(i 1).val % 128, Nat.mod_lt _ (by decide)⟩) := by
    unfold ctxOf; congr 1 <;> simp only [hn]
  rw [hc]
  simp only [putC_at, hn]
  clear hc hn
  fin_cases n <;> rfl

end Run

end Cert.KernelIdeal.Talk

end
-- ==== Proof.KernelIdeal.Run.lean ====
/-
The body of the fused kernel, run: every piece with the protocol's hand-overs, then the whole of it at a symbolic device.
-/
module

public import proofs.«01_k».proof.Proof.KernelIdeal.Body

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig ℕ (Elt F) ℕ UU ℕ

/-- What is still owed, at some record of waits. -/
def ow (c : Dev nD) (n : ℕ) : sProp 𝕄 := iprop(∃ W, owes (c : Thread nD τ) (owed c n) W)
/-- A resource for each half of each block. -/
def oct (Φ : Fin 4 → Fin 2 → sProp 𝕄) : sProp 𝕄 := quad fun q => iprop(Φ q 0 ∗ Φ q 1)
/-- A query block's rows of the partial products. -/
abbrev wAt (q : Fin 4) (c : Dev nD) (f : Vec F S2048x1024 .bf16) : sProp 𝕄 :=
  (wV q).loc (c : Thread nD τ) ↦[(wV q).set]{fullShare} f

theorem set_halves (q : Fin 4) : (wV q).set = (pM q 0).view.set ∪ (pM q 1).view.set := by
  refine Finset.ext fun i => (setW q i).trans (Iff.trans ?_ (Finset.mem_union.trans (or_congr (setP q 0 i) (setP q 1 i))).symm)
  show (i 0).val / 512 = q.val ↔ ((i 0).val / 256 = 2 * q.val + 0 ∨ (i 0).val / 256 = 2 * q.val + 1)
  omega
theorem halves_disj (q : Fin 4) : Disjoint (pM q 0).view.set (pM q 1).view.set := by
  refine Finset.disjoint_left.mpr fun i h0 h1 => ?_
  have h0 := (setP q 0 i).mp h0
  have h1 := (setP q 1 i).mp h1
  have : (2 * q.val + 0 : ℕ) = 2 * q.val + 1 := h0.symm.trans h1
  omega
/-- A block's rows are its two halves'. -/
theorem wAt_halves (q : Fin 4) (c : Dev nD) (f : Vec F S2048x1024 .bf16) : wAt q c f ⊢ iprop(pAt q 0 c f ∗ pAt q 1 c f) := by
  have h := (pointsTo_union (Ix := ℕ) (Val := Elt F) (Name := ℕ) (U := UU) (Lvl := ℕ) (ℓ := (pM q 0).view.loc (c : Thread nD τ)) (q := fullShare) (f := f) (halves_disj q)).1
  rw [← set_halves] at h
  exact h

section Run

variable (c : Dev nD) (aq : Vec F S2048x1024 .bf16) (ak av : Vec F S8x2048x128 .bf16) (aw : Vec F S1024x1024 .bf16)

/-! The loads and stores, each at what it is handed. -/

abbrev rAllC : Rect S512x1024 := Rect.unit (s := S512x1024) ![0, 0] S512x1024.size inb_S512x1024_S512x1024_0_0
abbrev rAllW : Rect S1024x1024 := Rect.unit (s := S1024x1024) ![0, 0] S1024x1024.size inb_S1024x1024_S1024x1024_0_0

theorem ld_C (Q : PUnit.{1} → sProp 𝕄) (f : Vec F S512x1024 .bf16) {ht} (k : Vec F S512x1024 .bf16 → Pg F) :
    whole c (Memref.whole cc1_scratch0) f ⊢ iprop((whole c (Memref.whole cc1_scratch0) f -∗ gos c (k f) Q)
      -∗ gos c (.op (.load (Memref.whole cc1_scratch0) rAllC.toLoadRect ht) k) Q) := by
  have h : whole c (Memref.whole cc1_scratch0) f ⊢ iprop((whole c (Memref.whole cc1_scratch0) f -∗ gos c (k (fun x => f (rAllC.toLoadRect.idx x))) Q)
      -∗ gos c (.op (.load (Memref.whole cc1_scratch0) rAllC.toLoadRect ht) k) Q) :=
    wp_load_rect 𝒱₀ (c : Thread nD τ) none Set.univ (m := Memref.whole cc1_scratch0) (r := rAllC) (Finset.subset_univ _)
  have hr : (fun x => f (rAllC.toLoadRect.idx x)) = f := by
    funext j
    refine congrArg f (funext fun a => Fin.ext ?_)
    match a with
    | ⟨0, _⟩ => show 0 + 1 * (j 0).val = (j 0).val; omega
    | ⟨1, _⟩ => show 0 + 1 * (j 1).val = (j 1).val; omega
  refine (?_ : ∀ g : Vec F S512x1024 .bf16, g = f → (whole c (Memref.whole cc1_scratch0) f ⊢ iprop((whole c (Memref.whole cc1_scratch0) f -∗ gos c (k g) Q)
      -∗ gos c (.op (.load (Memref.whole cc1_scratch0) rAllC.toLoadRect ht) k) Q)) → _) _ hr h
  rintro g rfl h; exact h
theorem ld_W (Q : PUnit.{1} → sProp 𝕄) (f : Vec F S1024x1024 .bf16) {ht} (k : Vec F S1024x1024 .bf16 → Pg F) :
    whole c (Memref.whole cc1_stg3_0) f ⊢ iprop((whole c (Memref.whole cc1_stg3_0) f -∗ gos c (k f) Q)
      -∗ gos c (.op (.load (Memref.whole cc1_stg3_0) rAllW.toLoadRect ht) k) Q) := by
  have h : whole c (Memref.whole cc1_stg3_0) f ⊢ iprop((whole c (Memref.whole cc1_stg3_0) f -∗ gos c (k (fun x => f (rAllW.toLoadRect.idx x))) Q)
      -∗ gos c (.op (.load (Memref.whole cc1_stg3_0) rAllW.toLoadRect ht) k) Q) :=
    wp_load_rect 𝒱₀ (c : Thread nD τ) none Set.univ (m := Memref.whole cc1_stg3_0) (r := rAllW) (Finset.subset_univ _)
  have hr : (fun x => f (rAllW.toLoadRect.idx x)) = f := by
    funext j
    refine congrArg f (funext fun a => Fin.ext ?_)
    match a with
    | ⟨0, _⟩ => show 0 + 1 * (j 0).val = (j 0).val; omega
    | ⟨1, _⟩ => show 0 + 1 * (j 1).val = (j 1).val; omega
  refine (?_ : ∀ g : Vec F S1024x1024 .bf16, g = f → (whole c (Memref.whole cc1_stg3_0) f ⊢ iprop((whole c (Memref.whole cc1_stg3_0) f -∗ gos c (k g) Q)
      -∗ gos c (.op (.load (Memref.whole cc1_stg3_0) rAllW.toLoadRect ht) k) Q)) → _) _ hr h
  rintro g rfl h; exact h
theorem ld_Wn (Q : PUnit.{1} → sProp 𝕄) (q : Fin 4) (f : Vec F S2048x1024 .bf16) {ht} (k : Vec F S512x1024 .bf16 → Pg F) :
    wAt q c f ⊢ iprop((wAt q c f -∗ gos c (k (fun x => f ((rW q).toLoadRect.idx x))) Q) -∗ gos c (.op (.load (Memref.whole cc1_scratch1) (rW q).toLoadRect ht) k) Q) :=
  wp_load_rect 𝒱₀ (c : Thread nD τ) none Set.univ (m := Memref.whole cc1_scratch1) (r := rW q) (Finset.Subset.refl _)
theorem st_Wn (Q : PUnit.{1} → sProp 𝕄) (q : Fin 4) (f : Vec F S2048x1024 .bf16) (w : FVec F S512x1024 .bf16) {h1 h2} (k : PUnit → Pg F) :
    wAt q c f ⊢ iprop((wAt q c ((wV q).write (Elt F) f w Finset.univ) -∗ gos c (k ⟨⟩) Q) -∗ gos c (.op (.store (Memref.whole cc1_scratch1) (rW q) w Finset.univ h1 h2) k) Q) :=
  wp_store 𝒱₀ (c : Thread nD τ) none Set.univ (m := Memref.whole cc1_scratch1) (r := rW q) (Finset.Subset.refl _)
theorem ld_P (Q : PUnit.{1} → sProp 𝕄) (q : Fin 4) (b : Fin 2) (f : Vec F S2048x1024 .bf16) {ht} (k : Vec F S256x1024 .bf16 → Pg F) :
    pAt q b c f ⊢ iprop((pAt q b c f -∗ gos c (k (getP q b f)) Q) -∗ gos c (.op (.load (Memref.whole cc1_scratch1) (rP q b).toLoadRect ht) k) Q) :=
  wp_load_rect 𝒱₀ (c : Thread nD τ) none Set.univ (m := Memref.whole cc1_scratch1) (r := rP q b) (Finset.Subset.refl _)
theorem ld_S (Q : PUnit.{1} → sProp 𝕄) (q : Fin 4) (b : Fin 2) (f : Vec F S4x2x256x1024 .bf16) {ht} (k : Vec F S1x1x256x1024 .bf16 → Pg F) :
    sAt q b c f ⊢ iprop((sAt q b c f -∗ gos c (k (getS q b f)) Q) -∗ gos c (.op (.load (Memref.whole cc1_scratch2) (rS q b).toLoadRect ht) k) Q) :=
  wp_load_rect 𝒱₀ (c : Thread nD τ) none Set.univ (m := Memref.whole cc1_scratch2) (r := rS q b)
    (Finset.subset_of_eq (slot_set (Memref.whole cc1_scratch2) q b).symm)
theorem ld_R1 (Q : PUnit.{1} → sProp 𝕄) (q : Fin 4) (b : Fin 2) (f : Vec F S4x2x256x1024 .bf16) {ht} (k : Vec F S1x1x256x1024 .bf16 → Pg F) :
    r1At q b c f ⊢ iprop((r1At q b c f -∗ gos c (k (getS q b f)) Q) -∗ gos c (.op (.load (Memref.whole cc1_scratch3) (rS q b).toLoadRect ht) k) Q) :=
  wp_load_rect 𝒱₀ (c : Thread nD τ) none Set.univ (m := Memref.whole cc1_scratch3) (r := rS q b)
    (Finset.subset_of_eq (slot_set (Memref.whole cc1_scratch3) q b).symm)
theorem ld_R2 (Q : PUnit.{1} → sProp 𝕄) (q : Fin 4) (b : Fin 2) (f : Vec F S4x2x256x1024 .bf16) {ht} (k : Vec F S1x1x256x1024 .bf16 → Pg F) :
    r2At q b c f ⊢ iprop((r2At q b c f -∗ gos c (k (getS q b f)) Q) -∗ gos c (.op (.load (Memref.whole cc1_scratch4) (rS q b).toLoadRect ht) k) Q) :=
  wp_load_rect 𝒱₀ (c : Thread nD τ) none Set.univ (m := Memref.whole cc1_scratch4) (r := rS q b)
    (Finset.subset_of_eq (slot_set (Memref.whole cc1_scratch4) q b).symm)
theorem st_S (Q : PUnit.{1} → sProp 𝕄) (q : Fin 4) (b : Fin 2) (f : Vec F S4x2x256x1024 .bf16) (w : FVec F S1x1x256x1024 .bf16) {h1 h2} (k : PUnit → Pg F) :
    sAt q b c f ⊢ iprop((sAt q b c (((Memref.whole cc1_scratch2).access (rS q b)).write (Elt F) f w Finset.univ) -∗ gos c (k ⟨⟩) Q)
      -∗ gos c (.op (.store (Memref.whole cc1_scratch2) (rS q b) w Finset.univ h1 h2) k) Q) :=
  wp_store 𝒱₀ (c : Thread nD τ) none Set.univ (m := Memref.whole cc1_scratch2) (r := rS q b)
    (Finset.subset_of_eq (slot_set (Memref.whole cc1_scratch2) q b).symm)
theorem ld_O (Q : PUnit.{1} → sProp 𝕄) (q : Fin 4) (b : Fin 2) (f : Vec F S2048x1024 .f32) {ht} (k : Vec F S256x1024 .f32 → Pg F) :
    whole c (Memref.whole cc1_stg4_0) f ⊢ iprop((whole c (Memref.whole cc1_stg4_0) f -∗ gos c (k (fun x => f ((rP q b).toLoadRect.idx x))) Q)
      -∗ gos c (.op (.load (Memref.whole cc1_stg4_0) (rP q b).toLoadRect ht) k) Q) :=
  wp_load_rect 𝒱₀ (c : Thread nD τ) none Set.univ (m := Memref.whole cc1_stg4_0) (r := rP q b) (Finset.subset_univ _)
theorem st_O (Q : PUnit.{1} → sProp 𝕄) (q : Fin 4) (b : Fin 2) (f : Vec F S2048x1024 .f32) (w : FVec F S256x1024 .f32) {h1 h2} (k : PUnit → Pg F) :
    whole c (Memref.whole cc1_stg4_0) f ⊢ iprop((whole c (Memref.whole cc1_stg4_0) (((Memref.whole cc1_stg4_0).access (rP q b)).write (Elt F) f w Finset.univ) -∗ gos c (k ⟨⟩) Q)
      -∗ gos c (.op (.store (Memref.whole cc1_stg4_0) (rP q b) w Finset.univ h1 h2) k) Q) :=
  wp_store 𝒱₀ (c : Thread nD τ) none Set.univ (m := Memref.whole cc1_stg4_0) (r := rP q b) (Finset.subset_univ _)

/-- The block's partial product. -/
theorem run_stP (Q : PUnit.{1} → sProp 𝕄) (q : Fin 4) (k : Pg F) :
    iprop(whole c (Memref.whole cc1_scratch0) (ctxOf aq ak av q) ∗ ∃ f, wAt q c f)
      ⊢ iprop(((whole c (Memref.whole cc1_scratch0) (ctxOf aq ak av q) ∗ pAt q 0 c (partOf aq ak av aw) ∗ pAt q 1 c (partOf aq ak av aw)) -∗ gos c k Q)
          -∗ gos c (stP q aw k) Q) := by
  unfold stP
  iintro ⟨Hc, %f, Hw⟩ HQ
  iapply (ld_C c Q _ _) $$ Hc
  iintro Hc
  iapply (ld_Wn c Q q _ _) $$ Hw
  iintro Hw
  iapply (st_Wn c Q q _ _ _) $$ Hw
  iintro Hw
  iapply HQ
  isplitl [Hc]; · iexact Hc
  iapply (wAt_halves q c (partOf aq ak av aw))
  have e : (wAt q c ((wV q).write (Elt F) f (prod (ctxOf aq ak av q) aw) Finset.univ) : sProp 𝕄) ⊢ wAt q c (partOf aq ak av aw) := by
    refine Entails.of_eq (pointsTo_congr fun i hi => ?_)
    have hi := (setW q i).mp hi
    refine (putW_at q f _ i hi).trans ?_
    have hq : (⟨(i 0).val / 512, by have : (i 0).val < 2048 := (i 0).2; omega⟩ : Fin 4) = q := Fin.ext hi
    show prod (ctxOf aq ak av q) aw _ = prod (ctxOf aq ak av (⟨(i 0).val / 512, _⟩ : Fin 4)) aw _
    rw [hq]
  iapply e; iexact Hw

variable (Pv : Dev nD → Vec F S2048x1024 .bf16) (K : GSem nD τ sig → ℕ)

theorem rowOf_eq (q : Fin 4) (b : Fin 2) (i : S4x2x256x1024.Idx) (h0 : i 0 = q) (h1 : i 1 = b) (g : Vec F S2048x1024 .bf16) :
    getP q b g (ix2 (n0 := 256) (n1 := 1024) (i 2) (i 3)) = inSlots g i := by
  refine congrArg g (funext fun a => Fin.ext ?_)
  match a with
  | ⟨0, _⟩ => show 512 * q.val + 256 * b.val + 1 * (i 2).val = 512 * (i 0).val + 256 * (i 1).val + (i 2).val; rw [h0, h1]; omega
  | ⟨1, _⟩ => show 0 + 1 * (i 3).val = (i 3).val; omega
theorem getS_eq (q : Fin 4) (b : Fin 2) (i : S4x2x256x1024.Idx) (h0 : i 0 = q) (h1 : i 1 = b) (g : Vec F S4x2x256x1024 .bf16) :
    getS q b g (ix4 (n0 := 1) (n1 := 1) (n2 := 256) (n3 := 1024) 0 0 (i 2) (i 3)) = g i := by
  refine congrArg g (funext fun a => Fin.ext ?_)
  match a with
  | ⟨0, _⟩ => show q.val + 1 * 0 = (i 0).val; rw [h0]; omega
  | ⟨1, _⟩ => show b.val + 1 * 0 = (i 1).val; rw [h1]; omega
  | ⟨2, _⟩ => show 0 + 1 * (i 2).val = (i 2).val; omega
  | ⟨3, _⟩ => show 0 + 1 * (i 3).val = (i 3).val; omega
theorem cast_4_2 {α : Type} (x : S1x1x256x1024.Idx → α) (h : S1x1x256x1024.ShapeCasts S256x1024) (i : Fin 256) (j : Fin 1024) :
    shapeCast S256x1024 x h (ix2 i j) = x (ix4 (n0 := 1) (n1 := 1) 0 0 i j) :=
  shapeCast_apply x h _ _ (by
    rw [Shape.rowMajor_val_four, Shape.rowMajor_val_two]
    show (((0 * 1 + 0) * 256 + i.val) * 1024 + j.val) = i.val * 1024 + j.val
    simp only [Nat.zero_mul, Nat.zero_add])
theorem cast_2_4 {α : Type} (x : S256x1024.Idx → α) (h : S256x1024.ShapeCasts S1x1x256x1024) (i : Fin 256) (j : Fin 1024) :
    shapeCast S1x1x256x1024 x h (ix4 (n0 := 1) (n1 := 1) 0 0 i j) = x (ix2 i j) :=
  shapeCast_apply x h _ _ (by
    rw [Shape.rowMajor_val_four, Shape.rowMajor_val_two]
    show i.val * 1024 + j.val = (((0 * 1 + 0) * 256 + i.val) * 1024 + j.val)
    simp only [Nat.zero_mul, Nat.zero_add])
/-- The first sum, elementwise. -/
theorem addTo_at (xp : Vec F S256x1024 .bf16) (xr : Vec F S1x1x256x1024 .bf16) (x : Fin 256) (y : Fin 1024) :
    addTo xp xr (ix4 (n0 := 1) (n1 := 1) (n2 := 256) (n3 := 1024) 0 0 x y) = FloatOps.addf (xp (ix2 x y)) (xr (ix4 (n0 := 1) (n1 := 1) 0 0 x y)) := by
  unfold addTo
  refine (cast_2_4 _ _ x y).trans ?_
  exact congrArg (FloatOps.addf (xp (ix2 x y))) (cast_4_2 xr _ x y)

/-- Half a block's sum with what arrived first. -/
theorem run_stS (Q : PUnit.{1} → sProp 𝕄) (q : Fin 4) (b : Fin 2) (k : Pg F) :
    iprop(pAt q b c (Pv c) ∗ r1At q b c (landed1 Pv c) ∗ ∃ f, sAt (F := F) q b c f)
      ⊢ iprop(((pAt q b c (Pv c) ∗ r1At q b c (landed1 Pv c) ∗ sAt q b c (sum1 Pv c)) -∗ gos c k Q) -∗ gos c (stS q b k) Q) := by
  unfold stS
  iintro ⟨Hp, Hr, %f, Hs⟩ HQ
  iapply (ld_P c Q q b _ _) $$ Hp
  iintro Hp
  iapply (ld_R1 c Q q b _ _) $$ Hr
  iintro Hr
  iapply (ld_S c Q q b _ _) $$ Hs
  iintro Hs
  iapply (st_S c Q q b _ _ _) $$ Hs
  iintro Hs
  iapply HQ
  isplitl [Hp]; · iexact Hp
  isplitl [Hr]; · iexact Hr
  have e : (sAt q b c (((Memref.whole cc1_scratch2).access (rS q b)).write (Elt F) f (addTo (getP q b (Pv c)) (getS q b (landed1 Pv c))) Finset.univ) : sProp 𝕄)
      ⊢ sAt q b c (sum1 Pv c) := by
    refine Entails.of_eq (pointsTo_congr fun (i : S4x2x256x1024.Idx) hi => ?_)
    obtain ⟨h0, h1⟩ := (set2 q b i).mp hi
    refine (putS_at q b f _ i h0 h1).trans ?_
    refine (addTo_at _ _ (i 2) (i 3)).trans ?_
    exact congrArg₂ FloatOps.addf (rowOf_eq q b i h0 h1 (Pv c)) (getS_eq q b i h0 h1 (landed1 Pv c))
  iapply e; iexact Hs

/-- Half a block's rows of the result. -/
theorem run_stO (Q : PUnit.{1} → sProp 𝕄) (q : Fin 4) (b : Fin 2) (s r : Vec F S4x2x256x1024 .bf16) (f : Vec F S2048x1024 .f32) (k : Pg F) :
    iprop(sAt q b c s ∗ r2At q b c r ∗ whole c (Memref.whole cc1_stg4_0) f)
      ⊢ iprop(((sAt q b c s ∗ r2At q b c r ∗ whole c (Memref.whole cc1_stg4_0)
          (((Memref.whole cc1_stg4_0).access (rP q b)).write (Elt F) f (addOut (getS q b s) (getS q b r)) Finset.univ)) -∗ gos c k Q) -∗ gos c (stO q b k) Q) := by
  unfold stO
  iintro ⟨Hs, Hr, Ho⟩ HQ
  iapply (ld_S c Q q b _ _) $$ Hs
  iintro Hs
  iapply (ld_R2 c Q q b _ _) $$ Hr
  iintro Hr
  iapply (ld_O c Q q b _ _) $$ Ho
  iintro Ho
  iapply (st_O c Q q b _ _ _) $$ Ho
  iintro Ho
  iapply HQ
  isplitl [Hs]; · iexact Hs
  isplitl [Hr]; · iexact Hr
  iexact Ho

/-- A block's compute and its two copies of the first exchange. -/
theorem run_blk (Q : PUnit.{1} → sProp 𝕄) (hP : Pv c = partOf aq ak av aw) (q : Fin 4) (c1 c2 : Dev nD) (h1 : c1 = pr 0 c) (h2 : c2 = pr 1 c) (n n1 m : ℕ)
    (hn : owed c n = owed c n1 + tallyAt (cell 1 q 0 (pr 0 c)) (lvl 0 q) N) (hm : owed c n1 = owed c m + tallyAt (cell 1 q 1 (pr 1 c)) (lvl 0 q) N) (k : Pg F) :
    iprop(invs Pv K ∗ ins c aq ak av ∗ (∃ f, whole c (Memref.whole cc1_scratch0) f) ∗ (∃ f, wAt q c f)
        ∗ Tk 0 q 0 c ∗ Tk 0 q 1 c ∗ offer1 (F := F) 0 (pr 0 c) q ∗ offer1 (F := F) 1 (pr 1 c) q ∗ ow c n)
      ⊢ iprop(((ins c aq ak av ∗ (∃ f, whole c (Memref.whole cc1_scratch0) f) ∗ Fl 0 q 0 c ∗ Fl 0 q 1 c ∗ ow c m) -∗ gos c k Q)
          -∗ gos c (blk q c1 c2 aw k) Q) := by
  unfold blk enq1 ow
  iintro ⟨#HI, Hin, Hc, Hw, Ht0, Ht1, Ho0, Ho1, %W, HO⟩ HQ
  iapply (run_heads c aq ak av Q q _) $$ [Hin Hc]; · isplitl [Hin] <;> iassumption
  iintro ⟨Hin, Hc⟩
  iapply (run_stP c aq ak av aw Q q _) $$ [Hc Hw]; · isplitl [Hc] <;> iassumption
  rw [← hP]
  iintro ⟨Hc, Hp0, Hp1⟩
  iapply (send1 Pv K q 0 c c1 h1 n n1 hn) $$ [Ht0 Ho0 Hp0 HO]
  · isplitr; · iexact HI
    isplitl [Ht0]; · iexact Ht0
    isplitl [Ho0]; · iexact Ho0
    isplitl [Hp0] <;> iassumption
  iintro ⟨Hf0, HO⟩
  iapply (send1 Pv K q 1 c c2 h2 n1 m hm) $$ [Ht1 Ho1 Hp1 HO]
  · isplitr; · iexact HI
    isplitl [Ht1]; · iexact Ht1
    isplitl [Ho1]; · iexact Ho1
    isplitl [Hp1] <;> iassumption
  iintro ⟨Hf1, HO⟩
  iapply HQ
  isplitl [Hin]; · iexact Hin
  isplitl [Hc]; · iexists _; iexact Hc
  isplitl [Hf0]; · iexact Hf0
  isplitl [Hf1]; · iexact Hf1
  iexists _; iexact HO

theorem payD0 (q : Fin 4) (b : Fin 2) : dmaPay Pv (dep 0) q b c ⊢ pAt q b c (Pv c) := BI.Entails.refl _
theorem payA0 (q : Fin 4) (b : Fin 2) : dmaPay Pv (arv 0) q b c ⊢ r1At q b c (landed1 Pv c) := BI.Entails.refl _
theorem payD1 (q : Fin 4) (b : Fin 2) : dmaPay Pv (dep 1) q b c ⊢ sAt q b c (sum1 Pv c) := BI.Entails.refl _
theorem payA1 (q : Fin 4) (b : Fin 2) : dmaPay Pv (arv 1) q b c ⊢ r2At q b c (landed2 Pv c) := BI.Entails.refl _
/-- The two waits of a copy of the first exchange. -/
theorem run_wt1 (Q : PUnit.{1} → sProp 𝕄) (q : Fin 4) (b : Fin 2) (n : ℕ) (hl : ∀ x ∈ (pays c).take n, x.1.1.2 = .tc ∧ lvl 0 q < x.2.1 ∧ x.2.1 < 11) (k : Pg F) :
    iprop(invs Pv K ∗ lev ∗ Fl 0 q b c ∗ ow c n)
      ⊢ iprop(((Dn 0 q b c ∗ pAt q b c (Pv c) ∗ r1At q b c (landed1 Pv c) ∗ ow c n) -∗ gos c k Q) -∗ gos c (wt1 q b k) Q) := by
  unfold wt1 ow
  iintro ⟨#HI, #Hl, Hf, %W, HO⟩ HQ
  iapply (wait_dep Pv K 0 q b c n (src_credit 0 q b) (fun x hx => ⟨(hl x hx).1, Nat.lt_of_le_of_lt (Nat.zero_le _) (hl x hx).2.1, (hl x hx).2.2⟩)) $$ [Hf HO]
  · isplitr; · iexact HI
    isplitr; · iexact Hl
    isplitl [Hf] <;> iassumption
  iintro ⟨Hw, Hp, HO⟩
  iapply (wait_arv Pv K 0 q b c n (dst_credit 0 q b) hl) $$ [Hw HO]
  · isplitr; · iexact HI
    isplitr; · iexact Hl
    isplitl [Hw] <;> iassumption
  iintro ⟨Hd, Hr, HO⟩
  ihave Hp := (payD0 c Pv q b) $$ Hp
  ihave Hr := (payA0 c Pv q b) $$ Hr
  iapply HQ
  isplitl [Hd]; · iexact Hd
  isplitl [Hp]; · iexact Hp
  isplitl [Hr]; · iexact Hr
  iexists _; iexact HO
/-- The two waits of a copy of the second exchange. -/
theorem run_wt2 (Q : PUnit.{1} → sProp 𝕄) (q : Fin 4) (b : Fin 2) (n : ℕ) (hl : ∀ x ∈ (pays c).take n, x.1.1.2 = .tc ∧ lvl 1 q < x.2.1 ∧ x.2.1 < 11) (k : Pg F) :
    iprop(invs Pv K ∗ lev ∗ Fl 1 q b c ∗ ow c n)
      ⊢ iprop(((Dn 1 q b c ∗ sAt q b c (sum1 Pv c) ∗ r2At q b c (landed2 Pv c) ∗ ow c n) -∗ gos c k Q) -∗ gos c (wt2 q b k) Q) := by
  unfold wt2 ow
  iintro ⟨#HI, #Hl, Hf, %W, HO⟩ HQ
  iapply (wait_dep Pv K 1 q b c n (src_credit 1 q b) (fun x hx => ⟨(hl x hx).1, Nat.lt_of_le_of_lt (Nat.zero_le _) (hl x hx).2.1, (hl x hx).2.2⟩)) $$ [Hf HO]
  · isplitr; · iexact HI
    isplitr; · iexact Hl
    isplitl [Hf] <;> iassumption
  iintro ⟨Hw, Hp, HO⟩
  iapply (wait_arv Pv K 1 q b c n (dst_credit 1 q b) hl) $$ [Hw HO]
  · isplitr; · iexact HI
    isplitr; · iexact Hl
    isplitl [Hw] <;> iassumption
  iintro ⟨Hd, Hr, HO⟩
  ihave Hp := (payD1 c Pv q b) $$ Hp
  ihave Hr := (payA1 c Pv q b) $$ Hr
  iapply HQ
  isplitl [Hd]; · iexact Hd
  isplitl [Hp]; · iexact Hp
  isplitl [Hr]; · iexact Hr
  iexists _; iexact HO

/-- A block's end of the first exchange and its copies of the second. -/
theorem run_fin1 (Q : PUnit.{1} → sProp 𝕄) (q : Fin 4) (c1 c2 : Dev nD) (h1 : c1 = pr 1 c) (h2 : c2 = pr 0 c) (n n1 m : ℕ)
    (hl : ∀ x ∈ (pays c).take n, x.1.1.2 = .tc ∧ lvl 0 q < x.2.1 ∧ x.2.1 < 11)
    (hn : owed c n = owed c n1 + tallyAt (cell 3 q 0 (pr 1 c)) (lvl 1 q) N) (hm : owed c n1 = owed c m + tallyAt (cell 3 q 1 (pr 0 c)) (lvl 1 q) N) (k : Pg F) :
    iprop(invs Pv K ∗ lev ∗ Fl 0 q 0 c ∗ Fl 0 q 1 c ∗ (∃ f, sAt (F := F) q 0 c f) ∗ (∃ f, sAt (F := F) q 1 c f)
        ∗ Tk 1 q 0 c ∗ Tk 1 q 1 c ∗ offer2 (F := F) 0 (pr 0 c) q ∗ offer2 (F := F) 1 (pr 1 c) q ∗ ow c n)
      ⊢ iprop(((Dn 0 q 0 c ∗ Dn 0 q 1 c ∗ pAt q 0 c (Pv c) ∗ pAt q 1 c (Pv c) ∗ r1At q 0 c (landed1 Pv c) ∗ r1At q 1 c (landed1 Pv c)
          ∗ Fl 1 q 0 c ∗ Fl 1 q 1 c ∗ ow c m) -∗ gos c k Q)
          -∗ gos c (fin1 q c1 c2 k) Q) := by
  unfold fin1 enq2 offer2
  iintro ⟨#HI, #Hl, Hf0, Hf1, Hs0, Hs1, Ht0, Ht1, Ho0, Ho1, HO⟩ HQ
  iapply (run_wt1 c Pv K Q q 0 n hl _) $$ [Hf0 HO]
  · isplitr; · iexact HI
    isplitr; · iexact Hl
    isplitl [Hf0] <;> iassumption
  iintro ⟨Hd0, Hp0, Hr0, HO⟩
  iapply (run_wt1 c Pv K Q q 1 n hl _) $$ [Hf1 HO]
  · isplitr; · iexact HI
    isplitr; · iexact Hl
    isplitl [Hf1] <;> iassumption
  iintro ⟨Hd1, Hp1, Hr1, HO⟩
  iapply (run_stS c Pv Q q 0 _) $$ [Hp0 Hr0 Hs0]
  · isplitl [Hp0]; · iexact Hp0
    isplitl [Hr0] <;> iassumption
  iintro ⟨Hp0, Hr0, Hs0⟩
  iapply (run_stS c Pv Q q 1 _) $$ [Hp1 Hr1 Hs1]
  · isplitl [Hp1]; · iexact Hp1
    isplitl [Hr1] <;> iassumption
  iintro ⟨Hp1, Hr1, Hs1⟩
  unfold ow
  icases HO with ⟨%W, HO⟩
  iapply (send2 Pv K q 0 c c1 h1 n n1 hn) $$ [Ht0 Ho1 Hs0 HO]
  · isplitr; · iexact HI
    isplitl [Ht0]; · iexact Ht0
    isplitl [Ho1]; · iexact Ho1
    isplitl [Hs0] <;> iassumption
  iintro ⟨Hg0, HO⟩
  iapply (send2 Pv K q 1 c c2 h2 n1 m hm) $$ [Ht1 Ho0 Hs1 HO]
  · isplitr; · iexact HI
    isplitl [Ht1]; · iexact Ht1
    isplitl [Ho0]; · iexact Ho0
    isplitl [Hs1] <;> iassumption
  iintro ⟨Hg1, HO⟩
  iapply HQ
  isplitl [Hd0]; · iexact Hd0
  isplitl [Hd1]; · iexact Hd1
  isplitl [Hp0]; · iexact Hp0
  isplitl [Hp1]; · iexact Hp1
  isplitl [Hr0]; · iexact Hr0
  isplitl [Hr1]; · iexact Hr1
  isplitl [Hg0]; · iexact Hg0
  isplitl [Hg1]; · iexact Hg1
  iexists _; iexact HO

/-- The result after a block's rows are stored, as a function of what it held. -/
def putO (s r : Vec F S4x2x256x1024 .bf16) (q : Fin 4) (b : Fin 2) (f : Vec F S2048x1024 .f32) : Vec F S2048x1024 .f32 :=
  ((Memref.whole cc1_stg4_0).access (rP q b)).write (Elt F) f (addOut (getS q b s) (getS q b r)) Finset.univ

/-- A block's end of the second exchange and its rows of the result. -/
theorem run_fin2 (Q : PUnit.{1} → sProp 𝕄) (q : Fin 4) (n : ℕ)
    (hl : ∀ x ∈ (pays c).take n, x.1.1.2 = .tc ∧ lvl 1 q < x.2.1 ∧ x.2.1 < 11) (f : Vec F S2048x1024 .f32) (k : Pg F) :
    iprop(invs Pv K ∗ lev ∗ Fl 1 q 0 c ∗ Fl 1 q 1 c ∗ whole c (Memref.whole cc1_stg4_0) f ∗ ow c n)
      ⊢ iprop(((Dn 1 q 0 c ∗ Dn 1 q 1 c ∗ sAt q 0 c (sum1 Pv c) ∗ sAt q 1 c (sum1 Pv c) ∗ r2At q 0 c (landed2 Pv c) ∗ r2At q 1 c (landed2 Pv c)
          ∗ whole c (Memref.whole cc1_stg4_0) (putO (sum1 Pv c) (landed2 Pv c) q 1 (putO (sum1 Pv c) (landed2 Pv c) q 0 f)) ∗ ow c n) -∗ gos c k Q)
          -∗ gos c (fin2 q k) Q) := by
  unfold fin2
  iintro ⟨#HI, #Hl, Hf0, Hf1, Ho, HO⟩ HQ
  iapply (run_wt2 c Pv K Q q 0 n hl _) $$ [Hf0 HO]
  · isplitr; · iexact HI
    isplitr; · iexact Hl
    isplitl [Hf0] <;> iassumption
  iintro ⟨Hd0, Hs0, Hr0, HO⟩
  iapply (run_wt2 c Pv K Q q 1 n hl _) $$ [Hf1 HO]
  · isplitr; · iexact HI
    isplitr; · iexact Hl
    isplitl [Hf1] <;> iassumption
  iintro ⟨Hd1, Hs1, Hr1, HO⟩
  iapply (run_stO c Q q 0 _ _ _ _) $$ [Hs0 Hr0 Ho]
  · isplitl [Hs0]; · iexact Hs0
    isplitl [Hr0] <;> iassumption
  iintro ⟨Hs0, Hr0, Ho⟩
  iapply (run_stO c Q q 1 _ _ _ _) $$ [Hs1 Hr1 Ho]
  · isplitl [Hs1]; · iexact Hs1
    isplitl [Hr1] <;> iassumption
  iintro ⟨Hs1, Hr1, Ho⟩
  iapply HQ
  isplitl [Hd0]; · iexact Hd0
  isplitl [Hd1]; · iexact Hd1
  isplitl [Hs0]; · iexact Hs0
  isplitl [Hs1]; · iexact Hs1
  isplitl [Hr0]; · iexact Hr0
  isplitl [Hr1]; · iexact Hr1
  isplitl [Ho]; · iexact Ho
  iexact HO

/-- After every block's rows are stored the result holds the sums throughout. -/
theorem putO_all (s r : Vec F S4x2x256x1024 .bf16) (f : Vec F S2048x1024 .f32) :
    putO s r 3 1 (putO s r 3 0 (putO s r 2 1 (putO s r 2 0 (putO s r 1 1 (putO s r 1 0 (putO s r 0 1 (putO s r 0 0 f))))))) = outOf s r := by
  funext i
  have hi : (i 0).val < 2048 := (i 0).2
  obtain ⟨n, hn⟩ : ∃ n : Fin 8, (i 0).val / 256 = n.val := ⟨⟨(i 0).val / 256, by omega⟩, rfl⟩
  have hc : outOf s r i = addOut (getS (⟨n.val / 2, by omega⟩ : Fin 4) (⟨n.val % 2, by omega⟩ : Fin 2) s) (getS (⟨n.val / 2, by omega⟩ : Fin 4) (⟨n.val % 2, by omega⟩ : Fin 2) r)
      (ix2 (n0 := 256) (n1 := 1024) ⟨(i 0).val % 256, Nat.mod_lt _ (by decide)⟩ (i 1)) := by
    have e1 : (i 0).val / 512 = n.val / 2 := by omega
    unfold outOf
    simp only [hn, e1]
  rw [hc]
  unfold putO
  simp only [putO_at, hn]
  clear hc hn
  fin_cases n <;> rfl

/-- What the body is handed. -/
def Pre : sProp 𝕄 :=
  iprop(ins c aq ak av ∗ whole c (Memref.whole cc1_stg3_0) aw ∗ (∃ f, whole c (Memref.whole cc1_stg4_0) f) ∗ (∃ f, whole c (Memref.whole cc1_scratch0) f)
    ∗ quad (fun q => iprop(∃ f, wAt (F := F) q c f)) ∗ oct (fun q b => iprop(∃ f, sAt (F := F) q b c f))
    ∗ (dutyTok ER (barCell (pr 0 c)) 0 0 ∗ dutyTok ER (barCell (pr 1 c)) 0 1 ∗ reached ER (barCell (pr 0 c)) 0 ∗ reached ER (barCell (pr 1 c)) 0)
    ∗ (offers (F := F) 0 c ∗ offers (F := F) 1 c) ∗ (atPos ER (barCell c) 0 ∅ 0 ∗ cred (tallyAt (barCell c) 1 2))
    ∗ oct (fun q b => Tk 0 q b c) ∗ oct (fun q b => Tk 1 q b c) ∗ ow c 18)
/-- What it hands back, the result at the sum of the four partial products. -/
def Post : sProp 𝕄 :=
  iprop(ins c aq ak av ∗ whole c (Memref.whole cc1_stg3_0) aw ∗ whole c (Memref.whole cc1_stg4_0) (outOf (sum1 Pv c) (landed2 Pv c)) ∗ (∃ f, whole c (Memref.whole cc1_scratch0) f)
    ∗ oct (fun q b => pAt q b c (Pv c)) ∗ oct (fun q b => sAt q b c (sum1 Pv c))
    ∗ oct (fun q b => r1At q b c (landed1 Pv c)) ∗ oct (fun q b => r2At q b c (landed2 Pv c))
    ∗ atPos ER (barCell c) 1 ∅ 0 ∗ oct (fun q b => Dn 0 q b c) ∗ oct (fun q b => Dn 1 q b c) ∗ ow c 0)

theorem gos_dev (k : Dev nD → Pg F) (Q : PUnit.{1} → sProp 𝕄) : gos c (.op .deviceId k) Q = gos c (k c) Q :=
  wp_deviceId 𝒱₀ (c : Thread nD τ) none Set.univ
theorem mega_dev (Q : PUnit.{1} → sProp 𝕄) : gos c (mega (F := F)) Q = gos c (megaAt c) Q := gos_dev c megaAt Q

theorem dev1 : (⟨k1_dev1 c, k1_dev1_lt c⟩ : Dev nD) = pr 0 c := by revert c; decide
theorem dev2 : (⟨k1_dev2 c, k1_dev2_lt c⟩ : Dev nD) = pr 1 c := by revert c; decide
theorem dev3 : (⟨k1_dev3 c, k1_dev3_lt c⟩ : Dev nD) = pr 0 c := by revert c; decide
theorem dev4 : (⟨k1_dev4 c, k1_dev4_lt c⟩ : Dev nD) = pr 1 c := by revert c; decide
theorem dev5 : (⟨k1_dev5 c, k1_dev5_lt c⟩ : Dev nD) = pr 0 c := by revert c; decide
theorem dev6 : (⟨k1_dev6 c, k1_dev6_lt c⟩ : Dev nD) = pr 1 c := by revert c; decide
theorem dev7 : (⟨k1_dev7 c, k1_dev7_lt c⟩ : Dev nD) = pr 1 c := by revert c; decide
theorem dev8 : (⟨k1_dev8 c, k1_dev8_lt c⟩ : Dev nD) = pr 0 c := by revert c; decide
theorem dev9 : (⟨k1_dev9 c, k1_dev9_lt c⟩ : Dev nD) = pr 0 c := by revert c; decide
theorem dev10 : (⟨k1_dev10 c, k1_dev10_lt c⟩ : Dev nD) = pr 1 c := by revert c; decide
theorem dev11 : (⟨k1_dev11 c, k1_dev11_lt c⟩ : Dev nD) = pr 1 c := by revert c; decide
theorem dev12 : (⟨k1_dev12 c, k1_dev12_lt c⟩ : Dev nD) = pr 0 c := by revert c; decide
theorem dev13 : (⟨k1_dev13 c, k1_dev13_lt c⟩ : Dev nD) = pr 0 c := by revert c; decide
theorem dev14 : (⟨k1_dev14 c, k1_dev14_lt c⟩ : Dev nD) = pr 1 c := by revert c; decide
theorem dev15 : (⟨k1_dev15 c, k1_dev15_lt c⟩ : Dev nD) = pr 1 c := by revert c; decide
theorem dev16 : (⟨k1_dev16 c, k1_dev16_lt c⟩ : Dev nD) = pr 0 c := by revert c; decide
theorem dev17 : (⟨k1_dev17 c, k1_dev17_lt c⟩ : Dev nD) = pr 1 c := by revert c; decide
theorem dev18 : (⟨k1_dev18 c, k1_dev18_lt c⟩ : Dev nD) = pr 0 c := by revert c; decide
theorem ab0 : ∀ x ∈ (pays c).take 12, x.1.1.2 = .tc ∧ lvl 0 0 < x.2.1 ∧ x.2.1 < 11 := by revert c; decide
theorem ab1 : ∀ x ∈ (pays c).take 8, x.1.1.2 = .tc ∧ lvl 0 1 < x.2.1 ∧ x.2.1 < 11 := by revert c; decide
theorem ab2 : ∀ x ∈ (pays c).take 4, x.1.1.2 = .tc ∧ lvl 0 2 < x.2.1 ∧ x.2.1 < 11 := by revert c; decide
theorem ab3 : ∀ x ∈ (pays c).take 2, x.1.1.2 = .tc ∧ lvl 0 3 < x.2.1 ∧ x.2.1 < 11 := by revert c; decide

/-- The whole body, run. -/
theorem run_mega (Q : PUnit.{1} → sProp 𝕄) (hP : Pv c = partOf aq ak av aw) :
    iprop(invs Pv K ∗ lev ∗ Pre c aq ak av aw) ⊢ iprop((Post c aq ak av aw Pv -∗ Q ⟨⟩) -∗ gos c (mega (F := F)) Q) := by
  rw [mega_dev]
  unfold Pre offers oct quad
  iintro ⟨#HI, #Hl, Hin, Hw, ⟨%fo, Ho⟩, Hc, ⟨Hw0, Hw1, Hw2, Hw3⟩, ⟨⟨Hs00, Hs01⟩, ⟨Hs10, Hs11⟩, ⟨Hs20, Hs21⟩, ⟨Hs30, Hs31⟩⟩, Hbt, Hof, Hb,
    ⟨⟨Ht00, Ht01⟩, ⟨Ht10, Ht11⟩, ⟨Ht20, Ht21⟩, ⟨Ht30, Ht31⟩⟩, ⟨⟨Hu00, Hu01⟩, ⟨Hu10, Hu11⟩, ⟨Hu20, Hu21⟩, ⟨Hu30, Hu31⟩⟩, HO⟩ HQ
  unfold megaAt ow
  icases HO with ⟨%W, HO⟩
  iapply (start_bar Pv K c _ _ (dev1 c) (dev2 c)) $$ [Hbt Hof Hb HO]
  · isplitr; · iexact HI
    isplitr; · iexact Hl
    isplitl [Hbt]; · iexact Hbt
    isplitl [Hof]; · iexact Hof
    isplitl [Hb] <;> iassumption
  unfold offers quad
  iintro ⟨Hb, ⟨⟨Ho00, Ho10, Ho20, Ho30⟩, ⟨Hq00, Hq10, Hq20, Hq30⟩⟩, ⟨⟨Ho01, Ho11, Ho21, Ho31⟩, ⟨Hq01, Hq11, Hq21, Hq31⟩⟩, HO⟩
  iapply (ld_W c Q aw _) $$ Hw
  iintro Hw
  have how (n : ℕ) (W' : Waits sig ℕ) : (owes (c : Thread nD τ) (owed c n) W' : sProp 𝕄) ⊢ ow c n := by unfold ow; iintro H; iexists _; iexact H
  ihave HO := (how 16 _) $$ HO
  iapply (run_blk c aq ak av aw Pv K Q hP 0 _ _ (dev3 c) (dev4 c) 16 15 14 rfl rfl _) $$ [Hin Hc Hw0 Ht00 Ht01 Ho00 Ho01 HO]
  · isplitr; · iexact HI
    isplitl [Hin]; · iexact Hin
    isplitl [Hc]; · iexact Hc
    isplitl [Hw0]; · iexact Hw0
    isplitl [Ht00]; · iexact Ht00
    isplitl [Ht01]; · iexact Ht01
    isplitl [Ho00]; · iexact Ho00
    isplitl [Ho01] <;> iassumption
  iintro ⟨Hin, Hc, Hf00, Hf01, HO⟩
  iapply (run_blk c aq ak av aw Pv K Q hP 1 _ _ (dev5 c) (dev6 c) 14 13 12 rfl rfl _) $$ [Hin Hc Hw1 Ht10 Ht11 Ho10 Ho11 HO]
  · isplitr; · iexact HI
    isplitl [Hin]; · iexact Hin
    isplitl [Hc]; · iexact Hc
    isplitl [Hw1]; · iexact Hw1
    isplitl [Ht10]; · iexact Ht10
    isplitl [Ht11]; · iexact Ht11
    isplitl [Ho10]; · iexact Ho10
    isplitl [Ho11] <;> iassumption
  iintro ⟨Hin, Hc, Hf10, Hf11, HO⟩
  iapply (run_fin1 c Pv K Q 0 _ _ (dev7 c) (dev8 c) 12 11 10 (ab0 c) rfl rfl _) $$ [Hf00 Hf01 Hs00 Hs01 Hu00 Hu01 Hq00 Hq01 HO]
  · isplitr; · iexact HI
    isplitr; · iexact Hl
    isplitl [Hf00]; · iexact Hf00
    isplitl [Hf01]; · iexact Hf01
    isplitl [Hs00]; · iexact Hs00
    isplitl [Hs01]; · iexact Hs01
    isplitl [Hu00]; · iexact Hu00
    isplitl [Hu01]; · iexact Hu01
    isplitl [Hq00]; · iexact Hq00
    isplitl [Hq01] <;> iassumption
  iintro ⟨Hd00, Hd01, Hp00, Hp01, Hr00, Hr01, Hg00, Hg01, HO⟩
  iapply (run_blk c aq ak av aw Pv K Q hP 2 _ _ (dev9 c) (dev10 c) 10 9 8 rfl rfl _) $$ [Hin Hc Hw2 Ht20 Ht21 Ho20 Ho21 HO]
  · isplitr; · iexact HI
    isplitl [Hin]; · iexact Hin
    isplitl [Hc]; · iexact Hc
    isplitl [Hw2]; · iexact Hw2
    isplitl [Ht20]; · iexact Ht20
    isplitl [Ht21]; · iexact Ht21
    isplitl [Ho20]; · iexact Ho20
    isplitl [Ho21] <;> iassumption
  iintro ⟨Hin, Hc, Hf20, Hf21, HO⟩
  iapply (run_fin1 c Pv K Q 1 _ _ (dev11 c) (dev12 c) 8 7 6 (ab1 c) rfl rfl _) $$ [Hf10 Hf11 Hs10 Hs11 Hu10 Hu11 Hq10 Hq11 HO]
  · isplitr; · iexact HI
    isplitr; · iexact Hl
    isplitl [Hf10]; · iexact Hf10
    isplitl [Hf11]; · iexact Hf11
    isplitl [Hs10]; · iexact Hs10
    isplitl [Hs11]; · iexact Hs11
    isplitl [Hu10]; · iexact Hu10
    isplitl [Hu11]; · iexact Hu11
    isplitl [Hq10]; · iexact Hq10
    isplitl [Hq11] <;> iassumption
  iintro ⟨Hd10, Hd11, Hp10, Hp11, Hr10, Hr11, Hg10, Hg11, HO⟩
  iapply (run_blk c aq ak av aw Pv K Q hP 3 _ _ (dev13 c) (dev14 c) 6 5 4 rfl rfl _) $$ [Hin Hc Hw3 Ht30 Ht31 Ho30 Ho31 HO]
  · isplitr; · iexact HI
    isplitl [Hin]; · iexact Hin
    isplitl [Hc]; · iexact Hc
    isplitl [Hw3]; · iexact Hw3
    isplitl [Ht30]; · iexact Ht30
    isplitl [Ht31]; · iexact Ht31
    isplitl [Ho30]; · iexact Ho30
    isplitl [Ho31] <;> iassumption
  iintro ⟨Hin, Hc, Hf30, Hf31, HO⟩
  iapply (run_fin1 c Pv K Q 2 _ _ (dev15 c) (dev16 c) 4 3 2 (ab2 c) rfl rfl _) $$ [Hf20 Hf21 Hs20 Hs21 Hu20 Hu21 Hq20 Hq21 HO]
  · isplitr; · iexact HI
    isplitr; · iexact Hl
    isplitl [Hf20]; · iexact Hf20
    isplitl [Hf21]; · iexact Hf21
    isplitl [Hs20]; · iexact Hs20
    isplitl [Hs21]; · iexact Hs21
    isplitl [Hu20]; · iexact Hu20
    isplitl [Hu21]; · iexact Hu21
    isplitl [Hq20]; · iexact Hq20
    isplitl [Hq21] <;> iassumption
  iintro ⟨Hd20, Hd21, Hp20, Hp21, Hr20, Hr21, Hg20, Hg21, HO⟩
  iapply (run_fin1 c Pv K Q 3 _ _ (dev17 c) (dev18 c) 2 1 0 (ab3 c) rfl rfl _) $$ [Hf30 Hf31 Hs30 Hs31 Hu30 Hu31 Hq30 Hq31 HO]
  · isplitr; · iexact HI
    isplitr; · iexact Hl
    isplitl [Hf30]; · iexact Hf30
    isplitl [Hf31]; · iexact Hf31
    isplitl [Hs30]; · iexact Hs30
    isplitl [Hs31]; · iexact Hs31
    isplitl [Hu30]; · iexact Hu30
    isplitl [Hu31]; · iexact Hu31
    isplitl [Hq30]; · iexact Hq30
    isplitl [Hq31] <;> iassumption
  iintro ⟨Hd30, Hd31, Hp30, Hp31, Hr30, Hr31, Hg30, Hg31, HO⟩
  iapply (run_fin2 c Pv K Q 0 0 (by intro x hx; exact absurd hx List.not_mem_nil) _ _) $$ [Hg00 Hg01 Ho HO]
  · isplitr; · iexact HI
    isplitr; · iexact Hl
    isplitl [Hg00]; · iexact Hg00
    isplitl [Hg01]; · iexact Hg01
    isplitl [Ho] <;> iassumption
  iintro ⟨He00, He01, Hs00, Hs01, Hv00, Hv01, Ho, HO⟩
  iapply (run_fin2 c Pv K Q 1 0 (by intro x hx; exact absurd hx List.not_mem_nil) _ _) $$ [Hg10 Hg11 Ho HO]
  · isplitr; · iexact HI
    isplitr; · iexact Hl
    isplitl [Hg10]; · iexact Hg10
    isplitl [Hg11]; · iexact Hg11
    isplitl [Ho] <;> iassumption
  iintro ⟨He10, He11, Hs10, Hs11, Hv10, Hv11, Ho, HO⟩
  iapply (run_fin2 c Pv K Q 2 0 (by intro x hx; exact absurd hx List.not_mem_nil) _ _) $$ [Hg20 Hg21 Ho HO]
  · isplitr; · iexact HI
    isplitr; · iexact Hl
    isplitl [Hg20]; · iexact Hg20
    isplitl [Hg21]; · iexact Hg21
    isplitl [Ho] <;> iassumption
  iintro ⟨He20, He21, Hs20, Hs21, Hv20, Hv21, Ho, HO⟩
  iapply (run_fin2 c Pv K Q 3 0 (by intro x hx; exact absurd hx List.not_mem_nil) _ _) $$ [Hg30 Hg31 Ho HO]
  · isplitr; · iexact HI
    isplitr; · iexact Hl
    isplitl [Hg30]; · iexact Hg30
    isplitl [Hg31]; · iexact Hg31
    isplitl [Ho] <;> iassumption
  iintro ⟨He30, He31, Hs30, Hs31, Hv30, Hv31, Ho, HO⟩
  rw [putO_all]
  unfold gos
  rw [wp_ret]
  imodintro
  iapply HQ
  unfold Post oct quad
  isplitl [Hin]; · iexact Hin
  isplitl [Hw]; · iexact Hw
  isplitl [Ho]; · iexact Ho
  isplitl [Hc]; · iexact Hc
  isplitl [Hp00 Hp01 Hp10 Hp11 Hp20 Hp21 Hp30 Hp31]
  · isplitl [Hp00 Hp01]; · isplitl [Hp00] <;> iassumption
    isplitl [Hp10 Hp11]; · isplitl [Hp10] <;> iassumption
    isplitl [Hp20 Hp21]; · isplitl [Hp20] <;> iassumption
    isplitl [Hp30] <;> iassumption
  isplitl [Hs00 Hs01 Hs10 Hs11 Hs20 Hs21 Hs30 Hs31]
  · isplitl [Hs00 Hs01]; · isplitl [Hs00] <;> iassumption
    isplitl [Hs10 Hs11]; · isplitl [Hs10] <;> iassumption
    isplitl [Hs20 Hs21]; · isplitl [Hs20] <;> iassumption
    isplitl [Hs30] <;> iassumption
  isplitl [Hr00 Hr01 Hr10 Hr11 Hr20 Hr21 Hr30 Hr31]
  · isplitl [Hr00 Hr01]; · isplitl [Hr00] <;> iassumption
    isplitl [Hr10 Hr11]; · isplitl [Hr10] <;> iassumption
    isplitl [Hr20 Hr21]; · isplitl [Hr20] <;> iassumption
    isplitl [Hr30] <;> iassumption
  isplitl [Hv00 Hv01 Hv10 Hv11 Hv20 Hv21 Hv30 Hv31]
  · isplitl [Hv00 Hv01]; · isplitl [Hv00] <;> iassumption
    isplitl [Hv10 Hv11]; · isplitl [Hv10] <;> iassumption
    isplitl [Hv20 Hv21]; · isplitl [Hv20] <;> iassumption
    isplitl [Hv30] <;> iassumption
  isplitl [Hb]; · iexact Hb
  isplitl [Hd00 Hd01 Hd10 Hd11 Hd20 Hd21 Hd30 Hd31]
  · isplitl [Hd00 Hd01]; · isplitl [Hd00] <;> iassumption
    isplitl [Hd10 Hd11]; · isplitl [Hd10] <;> iassumption
    isplitl [Hd20 Hd21]; · isplitl [Hd20] <;> iassumption
    isplitl [Hd30] <;> iassumption
  isplitl [He00 He01 He10 He11 He20 He21 He30 He31]
  · isplitl [He00 He01]; · isplitl [He00] <;> iassumption
    isplitl [He10 He11]; · isplitl [He10] <;> iassumption
    isplitl [He20 He21]; · isplitl [He20] <;> iassumption
    isplitl [He30] <;> iassumption
  iexact HO

end Run
end Cert.KernelIdeal.Talk

end
-- ==== Proof.KernelIdeal.Split.lean ====
/-
  The buffers of the talking kernel cut into the pieces its protocol moves, and put back together; its 32 cells opened at
  the start; the credit of the launch sorted by cell.
-/
module

public import proofs.«01_k».proof.Proof.KernelIdeal.Run
public import Idealize.ShloMosaic.Lib.Ring.AtN
public import Idealize.ShloMosaic.Lib.Rounds.Family
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig ℕ (Elt F) ℕ UU ℕ

open TalkSites (Pay addL tallyL credOf)

/-! ## Families over blocks, halves and arrays -/

theorem bigSep_quad (Φ : Fin 4 → sProp 𝕄) : bigSep Finset.univ Φ = quad Φ :=
  bigSep_univ_eq_bigSepL [0, 1, 2, 3] (by decide) (by decide) Φ
theorem bigSep_oct (Φ : Fin 4 × Fin 2 → sProp 𝕄) : bigSep Finset.univ Φ = oct fun q b => Φ (q, b) := by
  rw [BI.bigSep_univ_prod, bigSep_quad]
  unfold oct
  congr 1
  exact funext fun q => BI.bigSep_fin_two fun b => Φ (q, b)
theorem bigSep_cells (Φ : Fin 4 × Fin 4 × Fin 2 → sProp 𝕄) :
    bigSep Finset.univ Φ = quad fun k => oct fun q b => Φ (k, q, b) := by
  rw [BI.bigSep_univ_prod, bigSep_quad]
  congr 1
  exact funext fun k => bigSep_oct fun x => Φ (k, x)

theorem quad_mono {Φ Ψ : Fin 4 → sProp 𝕄} (h : ∀ q, Φ q ⊢ Ψ q) : quad Φ ⊢ quad Ψ := by
  rw [← bigSep_quad, ← bigSep_quad]; exact bigSep_mono fun q _ => h q
theorem oct_mono {Φ Ψ : Fin 4 → Fin 2 → sProp 𝕄} (h : ∀ q b, Φ q b ⊢ Ψ q b) : oct Φ ⊢ oct Ψ :=
  quad_mono fun q => BIClass.sep_mono (h q 0) (h q 1)
theorem quad_sep (Φ Ψ : Fin 4 → sProp 𝕄) : quad (fun q => iprop(Φ q ∗ Ψ q)) = iprop(quad Φ ∗ quad Ψ) := by
  rw [← bigSep_quad, ← bigSep_quad, ← bigSep_quad]; exact bigSep_sep' _ _ _
theorem oct_sep (Φ Ψ : Fin 4 → Fin 2 → sProp 𝕄) : oct (fun q b => iprop(Φ q b ∗ Ψ q b)) = iprop(oct Φ ∗ oct Ψ) := by
  have h (X : Fin 4 → Fin 2 → sProp 𝕄) : oct X = bigSep Finset.univ fun x : Fin 4 × Fin 2 => X x.1 x.2 := (bigSep_oct fun x => X x.1 x.2).symm
  rw [h, h Φ, h Ψ]; exact bigSep_sep' _ _ _
theorem oct_cols (Φ : Fin 4 → Fin 2 → sProp 𝕄) : oct Φ = iprop(quad (fun q => Φ q 0) ∗ quad (fun q => Φ q 1)) := quad_sep _ _

/-! ## Buffers cut and joined -/

section Rows
variable {B : Type} [Fintype B] [DecidableEq B]
theorem rows_disj (I : B → Finset S2048x1024.Idx) (k : B → ℕ → Prop) (h : ∀ x i, i ∈ I x ↔ k x (i 0).val) (hk : ∀ x y n, k x n → k y n → x = y)
    (x y : B) (hxy : x ≠ y) : Disjoint (I x) (I y) :=
  Finset.disjoint_left.mpr fun i hi hi' => hxy (hk x y _ ((h x i).mp hi) ((h y i).mp hi'))
theorem rows_cover (I : B → Finset S2048x1024.Idx) (k : B → ℕ → Prop) (h : ∀ x i, i ∈ I x ↔ k x (i 0).val) (hk : ∀ n < 2048, ∃ x, k x n) :
    Finset.univ.biUnion I = Finset.univ :=
  Finset.eq_univ_iff_forall.mpr fun i => by
    obtain ⟨x, hx⟩ := hk (i 0).val (i 0).2
    exact Finset.mem_biUnion.mpr ⟨x, Finset.mem_univ _, (h x i).mpr hx⟩
end Rows
theorem w_key (x y : Fin 4) (n : ℕ) (h : n / 512 = x.val) (h' : n / 512 = y.val) : x = y := Fin.ext (h.symm.trans h')
theorem w_all (n : ℕ) (h : n < 2048) : ∃ x : Fin 4, n / 512 = x.val := ⟨⟨n / 512, by omega⟩, rfl⟩
theorem p_key (x y : Fin 4 × Fin 2) (n : ℕ) (h : n / 256 = 2 * x.1.val + x.2.val) (h' : n / 256 = 2 * y.1.val + y.2.val) : x = y := by
  have := x.2.2; have := y.2.2
  refine Prod.ext (Fin.ext ?_) (Fin.ext ?_) <;> omega
theorem p_all (n : ℕ) (h : n < 2048) : ∃ x : Fin 4 × Fin 2, n / 256 = 2 * x.1.val + x.2.val :=
  ⟨(⟨n / 512, by omega⟩, ⟨n / 256 % 2, by omega⟩), by show n / 256 = 2 * (n / 512) + n / 256 % 2; omega⟩

section Slots
theorem slots_disj (I : Fin 4 × Fin 2 → Finset S4x2x256x1024.Idx) (h : ∀ x i, i ∈ I x ↔ i 0 = x.1 ∧ i 1 = x.2) (x y : Fin 4 × Fin 2) (hxy : x ≠ y) :
    Disjoint (I x) (I y) :=
  Finset.disjoint_left.mpr fun i hi hi' => hxy (Prod.ext (((h x i).mp hi).1.symm.trans ((h y i).mp hi').1) (((h x i).mp hi).2.symm.trans ((h y i).mp hi').2))
theorem slots_cover (I : Fin 4 × Fin 2 → Finset S4x2x256x1024.Idx) (h : ∀ x i, i ∈ I x ↔ i 0 = x.1 ∧ i 1 = x.2) :
    Finset.univ.biUnion I = Finset.univ :=
  Finset.eq_univ_iff_forall.mpr fun i => Finset.mem_biUnion.mpr ⟨(i 0, i 1), Finset.mem_univ _, (h _ i).mpr ⟨rfl, rfl⟩⟩
end Slots

/-- The partial product's buffer by blocks of rows; -/
theorem cut_W (c : Dev nD) (f : Vec F S2048x1024 .bf16) :
    (whole c (Memref.whole cc1_scratch1) f : sProp 𝕄) ⊢ quad fun q => iprop(∃ f, wAt (F := F) q c f) := by
  have h := Ring.pointsTo_blocks (Ix := ℕ) (Name := ℕ) (U := UU) (Lvl := ℕ) (ℓ := (Memref.whole cc1_scratch1).view.loc (c : Thread nD τ))
    (fun q : Fin 4 => (wV q).set)
    (rows_disj _ (fun x n => n / 512 = x.val) setW w_key) (rows_cover _ (fun x n => n / 512 = x.val) setW w_all) (q := fullShare) (Val := Elt F) f
  rw [bigSep_quad] at h
  refine (Entails.of_eq h).trans (quad_mono fun q => ?_)
  iintro H; iexists f; iexact H
/-- its halves of blocks joined again. -/
theorem join_P (c : Dev nD) (f : Vec F S2048x1024 .bf16) :
    oct (fun q b => pAt (F := F) q b c f) ⊢ iprop(∃ f, whole c (Memref.whole cc1_scratch1) f : sProp 𝕄) := by
  have h := Ring.pointsTo_blocks (Ix := ℕ) (Name := ℕ) (U := UU) (Lvl := ℕ) (ℓ := (Memref.whole cc1_scratch1).view.loc (c : Thread nD τ))
    (fun x : Fin 4 × Fin 2 => (pM x.1 x.2).view.set)
    (rows_disj _ (fun x n => n / 256 = 2 * x.1.val + x.2.val) (fun x i => setP x.1 x.2 i) p_key)
    (rows_cover _ (fun x n => n / 256 = 2 * x.1.val + x.2.val) (fun x i => setP x.1 x.2 i) p_all) (q := fullShare) (Val := Elt F) f
  rw [bigSep_oct] at h
  refine (Entails.of_eq h.symm).trans ?_
  iintro H; iexists f; iexact H

/-- The three buffers of slots, cut and joined. -/
theorem oct_S (c : Dev nD) (f : Vec F S4x2x256x1024 .bf16) :
    (whole c (Memref.whole cc1_scratch2) f : sProp 𝕄) = oct fun q b => sAt (F := F) q b c f := by
  have h := Ring.pointsTo_blocks (Ix := ℕ) (Name := ℕ) (U := UU) (Lvl := ℕ) (ℓ := (Memref.whole cc1_scratch2).view.loc (c : Thread nD τ))
    (fun x : Fin 4 × Fin 2 => (slot (Memref.whole cc1_scratch2) x.1 x.2).view.set)
    (slots_disj _ fun x i => set2 x.1 x.2 i) (slots_cover _ fun x i => set2 x.1 x.2 i) (q := fullShare) (Val := Elt F) f
  rw [bigSep_oct] at h; exact h
theorem oct_R1 (c : Dev nD) (f : Vec F S4x2x256x1024 .bf16) :
    (whole c (Memref.whole cc1_scratch3) f : sProp 𝕄) = oct fun q b => r1At (F := F) q b c f := by
  have h := Ring.pointsTo_blocks (Ix := ℕ) (Name := ℕ) (U := UU) (Lvl := ℕ) (ℓ := (Memref.whole cc1_scratch3).view.loc (c : Thread nD τ))
    (fun x : Fin 4 × Fin 2 => (slot (Memref.whole cc1_scratch3) x.1 x.2).view.set)
    (slots_disj _ fun x i => set3 x.1 x.2 i) (slots_cover _ fun x i => set3 x.1 x.2 i) (q := fullShare) (Val := Elt F) f
  rw [bigSep_oct] at h; exact h
theorem oct_R2 (c : Dev nD) (f : Vec F S4x2x256x1024 .bf16) :
    (whole c (Memref.whole cc1_scratch4) f : sProp 𝕄) = oct fun q b => r2At (F := F) q b c f := by
  have h := Ring.pointsTo_blocks (Ix := ℕ) (Name := ℕ) (U := UU) (Lvl := ℕ) (ℓ := (Memref.whole cc1_scratch4).view.loc (c : Thread nD τ))
    (fun x : Fin 4 × Fin 2 => (slot (Memref.whole cc1_scratch4) x.1 x.2).view.set)
    (slots_disj _ fun x i => set4 x.1 x.2 i) (slots_cover _ fun x i => set4 x.1 x.2 i) (q := fullShare) (Val := Elt F) f
  rw [bigSep_oct] at h; exact h

/-! ## The cells opened -/

variable (Pv : Dev nD → Vec F S2048x1024 .bf16)

/-- Device c's barrier duties, its position, its credit there, and its cells open. -/
def Opened (c : Dev nD) : sProp 𝕄 :=
  iprop((∃ K, invs Pv K) ∗ lev
    ∗ (dutyTok ER (barCell (pr 0 c)) 0 0 ∗ dutyTok ER (barCell (pr 1 c)) 0 1 ∗ reached ER (barCell (pr 0 c)) 0 ∗ reached ER (barCell (pr 1 c)) 0)
    ∗ (atPos ER (barCell c) 0 ∅ 0 ∗ cred (tallyAt (barCell c) 1 2))
    ∗ oct (fun q b => Tk 0 q b c) ∗ oct (fun q b => Tk 1 q b c)
    ∗ oct (fun q b => reached ER (cell 1 q b c) 0) ∗ oct (fun q b => reached ER (cell 3 q b c) 0))

/-- Entry (q, b) of array `k`: the token of the duty the device pays there, and its own cell at its start. -/
def At (k q : Fin 4) (b : Fin 2) (c : Dev nD) : sProp 𝕄 :=
  iprop(dutyTok ER (cell k q b (payee k b c)) 0 0 ∗ atPos ER (cell k q b c) 0 ∅ 0 ∗ reached ER (cell k q b c) 0)
def Cr (σ : Fin 2) (q : Fin 4) (b : Fin 2) (c : Dev nD) : sProp 𝕄 := cred (tallyAt (cell (arv σ) q b c) (lvl σ q) N)

theorem tk_of (σ : Fin 2) (q : Fin 4) (b : Fin 2) (c : Dev nD) :
    iprop(At (F := F) (dep σ) q b c ∗ At (arv σ) q b c ∗ Cr σ q b c) ⊢ iprop(Tk (F := F) σ q b c ∗ reached ER (cell (arv σ) q b c) 0) := by
  unfold At Cr Tk
  rw [show payee (dep σ) b c = c from by revert σ b c; decide, show payee (arv σ) b c = tgt σ b c from by revert σ b c; decide]
  iintro ⟨⟨Hd0, Ha0, Hr0⟩, ⟨Hd1, Ha1, Hr1⟩, Hc⟩
  iframe

theorem oct_tk (σ : Fin 2) (c : Dev nD) :
    iprop(oct (fun q b => At (F := F) (dep σ) q b c) ∗ oct (fun q b => At (arv σ) q b c) ∗ oct (fun q b => Cr σ q b c))
      ⊢ iprop(oct (fun q b => Tk (F := F) σ q b c) ∗ oct (fun q b => reached ER (cell (arv σ) q b c) 0)) := by
  rw [← oct_sep, ← oct_sep, ← oct_sep]
  exact oct_mono fun q b => tk_of σ q b c

/-! ## The credit of the launch -/

/-- What the partner number `e` owes device c, in the order of its payments. -/
def dues (e : Fin 2) (c : Dev nD) : List (Pay nD τ sig) :=
  [(cell 3 3 (flip e) c, 10, N), (cell 3 2 (flip e) c, 10, N), (cell 1 3 e c, 5, N), (cell 3 1 (flip e) c, 10, N), (cell 1 2 e c, 4, N),
   (cell 3 0 (flip e) c, 10, N), (cell 1 1 e c, 3, N), (cell 1 0 e c, 2, N), (barCell c, 1, 1)]

theorem credOf_pays (c : Dev nD) : credOf pays c = dues 0 c ++ dues 1 c ∨ credOf pays c = dues 1 c ++ dues 0 c := by
  match c with
  | 0 => exact Or.inl rfl
  | 1 => exact Or.inl rfl
  | 2 => exact Or.inr rfl
  | 3 => exact Or.inr rfl

theorem tally_credOf (c : Dev nD) : tallyL (credOf pays c) = tallyL (dues 0 c) + tallyL (dues 1 c) := by
  rcases credOf_pays c with h | h
  · rw [h, TalkSites.tallyL_append]
  · rw [h, TalkSites.tallyL_append, add_comm]

theorem cred_dues (e : Fin 2) (c : Dev nD) : (cred (tallyL (dues e c)) : sProp 𝕄)
    ⊢ iprop(quad (fun q => Cr (F := F) 0 q e c) ∗ quad (fun q => Cr 1 q (flip e) c) ∗ cred (tallyAt (barCell c) 1 1)) := by
  rw [TalkSites.cred_tallyL]
  have h : (bigSepL (dues e c) fun x => cred x.tally : sProp 𝕄)
    = iprop(cred (tallyAt (cell 3 3 (flip e) c) 10 N) ∗ cred (tallyAt (cell 3 2 (flip e) c) 10 N) ∗ cred (tallyAt (cell 1 3 e c) 5 N)
      ∗ cred (tallyAt (cell 3 1 (flip e) c) 10 N) ∗ cred (tallyAt (cell 1 2 e c) 4 N) ∗ cred (tallyAt (cell 3 0 (flip e) c) 10 N)
      ∗ cred (tallyAt (cell 1 1 e c) 3 N) ∗ cred (tallyAt (cell 1 0 e c) 2 N) ∗ cred (tallyAt (barCell c) 1 1)) := rfl
  rw [h]
  match e with
  | 0 | 1 =>
    unfold quad Cr
    iintro ⟨H1, H2, H3, H4, H5, H6, H7, H8, H9⟩
    isplitl [H8 H7 H5 H3]
    · isplitl [H8]; · iexact H8
      isplitl [H7]; · iexact H7
      isplitl [H5]; · iexact H5
      iexact H3
    isplitr [H9]
    · isplitl [H6]; · iexact H6
      isplitl [H4]; · iexact H4
      isplitl [H2]; · iexact H2
      iexact H1
    iexact H9

theorem split_credit (c : Dev nD) : (cred (tallyL (credOf pays c)) : sProp 𝕄)
    ⊢ iprop(oct (fun q b => Cr (F := F) 0 q b c) ∗ oct (fun q b => Cr 1 q b c) ∗ cred (tallyAt (barCell c) 1 2)) := by
  rw [tally_credOf, oct_cols, oct_cols]
  have hb : (iprop(cred (tallyAt (barCell c) 1 1) ∗ cred (tallyAt (barCell c) 1 1)) : sProp 𝕄) ⊢ cred (tallyAt (barCell c) 1 2) := by
    have h := (cred_add (tallyAt (barCell c) 1 1) (tallyAt (barCell c) 1 1) : (_ : sProp 𝕄) ⊣⊢ _).2
    rw [tallyAt_add] at h; exact h
  iintro H
  ihave ⟨H0, H1⟩ := (cred_add _ _).1 $$ H
  ihave ⟨A0, B1, C0⟩ := (cred_dues 0 c) $$ H0
  ihave ⟨A1, B0, C1⟩ := (cred_dues 1 c) $$ H1
  isplitl [A0 A1]; · isplitl [A0] <;> iassumption
  isplitl [B0 B1]
  · isplitl [B0]; · iexact B0
    iexact B1
  iapply hb; isplitl [C0] <;> iassumption

/-- What the launch hands device c, and its counters at zero, become its open cells. -/
theorem opened (c : Dev nD) :
    iprop((fam.launched ER (sched Pv) (fun c => {pr 0 c, pr 1 c}) c ∗ cred (tallyL (credOf pays c))) ∗ Pipeline.ownSems0 osem c ∗ lev)
      ⊢ iprop(|={Set.univ}=> Opened Pv c) := by
  unfold Pipeline.ownSems0 TalkSites.Fam.launched TalkSites.Fam.barPos
  rw [BI.bigSep_univ_of_subsingleton (0 : Fin 1)]
  unfold TalkSites.Fam.rides
  have hnb : (bigSep {pr 0 c, pr 1 c} fun n : Dev nD => reached ER ((n : Thread nD τ), fam.bar) 0 : sProp 𝕄)
      = iprop(reached ER (barCell (pr 0 c)) 0 ∗ reached ER (barCell (pr 1 c)) 0) :=
    (bigSep_insert (by rw [Finset.mem_singleton]; exact pr_ne c)).trans (by rw [bigSep_singleton]; rfl)
  have hdorm : (bigSep (fam.dorm 0) fun s => openTok ER ((c : Thread nD τ), s) : sProp 𝕄)
      = bigSep Finset.univ fun i : Fin 4 × Fin 4 × Fin 2 => openTok ER (cell i.1 i.2.1 i.2.2 c) := bigSep_map ⟨osem, osem_inj⟩
  have htoks : (bigSep (fam.toks c 0) fun x => dutyTok ER x.1 x.2.1 x.2.2 : sProp 𝕄)
      = iprop((dutyTok ER (barCell (pr 0 c)) 0 0 ∗ dutyTok ER (barCell (pr 1 c)) 0 1)
          ∗ bigSep Finset.univ fun i : Fin 4 × Fin 4 × Fin 2 => dutyTok ER (cell i.1 i.2.1 i.2.2 (payee i.1 i.2.2 c)) 0 0) :=
    (bigSep_map ⟨tok c, tok_inj c⟩).trans ((bigSep_univ_sum _).trans (by rw [BI.bigSep_fin_two]; rfl))
  rw [hnb, hdorm, htoks]
  iintro ⟨⟨⟨⟨⟨%K, #HI⟩, Hbar, ⟨Hr0, Hr1⟩⟩, -, Hopen, ⟨Hd0, Hd1⟩, Htok⟩, Hcred⟩, Hsem, #Hlev⟩
  have hopen : iprop(invs Pv K ∗ (bigSep Finset.univ fun i : Fin 4 × Fin 4 × Fin 2 => openTok ER (cell i.1 i.2.1 i.2.2 c))
        ∗ (bigSep Finset.univ fun i : Fin 4 × Fin 4 × Fin 2 => dutyTok ER (cell i.1 i.2.1 i.2.2 (payee i.1 i.2.2 c)) 0 0)
        ∗ bigSep Finset.univ fun i => semVal ((c : Thread nD τ), osem i) 0)
      ⊢ (|={Set.univ}=> quad fun k => oct fun q b => At (F := F) k q b c : sProp 𝕄) := by
    iintro ⟨#HI, Ho, Ht, Hs⟩
    imod (Rounds.cells_open ER (sched Pv) Finset.univ (fun i : Fin 4 × Fin 4 × Fin 2 => cell i.1 i.2.1 i.2.2 c)
      (fun i => K (cell i.1 i.2.1 i.2.2 c)) (Es := Set.univ) fun _ _ => Set.mem_univ _) $$ [Ho Hs] with H
    · isplitl [Ho]
      · iapply (bigSep_with_persistent (R := invs Pv K) (fun i _ => BIClass.sep_mono (inv_cell Pv K i.1 i.2.1 i.2.2 c) .rfl))
        isplitr; · iexact HI
        iexact Ho
      iexact Hs
    imodintro
    have hj : iprop((bigSep Finset.univ fun i : Fin 4 × Fin 4 × Fin 2 => dutyTok ER (cell i.1 i.2.1 i.2.2 (payee i.1 i.2.2 c)) 0 0)
        ∗ bigSep Finset.univ fun i : Fin 4 × Fin 4 × Fin 2 => iprop(atPos ER (cell i.1 i.2.1 i.2.2 c) 0 ∅ 0 ∗ reached ER (cell i.1 i.2.1 i.2.2 c) 0))
        ⊢ (quad fun k => oct fun q b => At (F := F) k q b c : sProp 𝕄) := by
      rw [← bigSep_sep', bigSep_cells]; exact .rfl
    iapply hj
    isplitl [Ht] <;> iassumption
  ihave #HJ := (show fam.cellInvs ER (sched Pv) K ⊢ invs Pv K from .rfl) $$ HI
  imod hopen $$ [Hopen Htok Hsem] with Hat
  · isplitr; · iexact HJ
    isplitl [Hopen]; · iexact Hopen
    isplitl [Htok] <;> iassumption
  imodintro
  ihave ⟨C0, C1, Cb⟩ := (split_credit c) $$ Hcred
  ihave Hat := (show (quad fun k => oct fun q b => At (F := F) k q b c) ⊢ iprop(oct (fun q b => At (F := F) 0 q b c)
    ∗ oct (fun q b => At 1 q b c) ∗ oct (fun q b => At 2 q b c) ∗ oct (fun q b => At 3 q b c)) from .rfl) $$ Hat
  icases Hat with ⟨A0, A1, A2, A3⟩
  have t0 : iprop(oct (fun q b => At (F := F) 0 q b c) ∗ oct (fun q b => At 1 q b c) ∗ oct (fun q b => Cr 0 q b c))
      ⊢ iprop(oct (fun q b => Tk (F := F) 0 q b c) ∗ oct (fun q b => reached ER (cell 1 q b c) 0)) := oct_tk 0 c
  have t1 : iprop(oct (fun q b => At (F := F) 2 q b c) ∗ oct (fun q b => At 3 q b c) ∗ oct (fun q b => Cr 1 q b c))
      ⊢ iprop(oct (fun q b => Tk (F := F) 1 q b c) ∗ oct (fun q b => reached ER (cell 3 q b c) 0)) := oct_tk 1 c
  ihave ⟨T0, R0⟩ := t0 $$ [A0 A1 C0]
  · isplitl [A0]; · iexact A0
    isplitl [A1] <;> iassumption
  ihave ⟨T1, R1⟩ := t1 $$ [A2 A3 C1]
  · isplitl [A2]; · iexact A2
    isplitl [A3] <;> iassumption
  unfold Opened
  isplitr; · iexists K; iexact HJ
  isplitr; · iexact Hlev
  isplitl [Hd0 Hd1 Hr0 Hr1]
  · isplitl [Hd0]; · iexact Hd0
    isplitl [Hd1]; · iexact Hd1
    isplitl [Hr0]; · iexact Hr0
    iexact Hr1
  isplitl [Hbar Cb]
  · isplitl [Hbar]; · iexact Hbar
    iexact Cb
  isplitl [T0]; · iexact T0
  isplitl [T1]; · iexact T1
  isplitl [R0] <;> iassumption

/-- All of the kernel's own cells, each past its one round, closed: their counters are back at zero. -/
theorem closed (c : Dev nD) (K : GSem nD τ sig → ℕ) :
    iprop(invs Pv K ∗ oct (fun q b => Dn (F := F) 0 q b c) ∗ oct (fun q b => Dn 1 q b c)) ⊢ iprop(|={Set.univ}=> Pipeline.ownSems0 osem c) := by
  have h4 : (iprop(oct (fun q b => Dn (F := F) 0 q b c) ∗ oct (fun q b => Dn 1 q b c)) : sProp 𝕄)
      ⊢ bigSep Finset.univ fun i : Fin 4 × Fin 4 × Fin 2 => atPos ER (cell i.1 i.2.1 i.2.2 c) 1 ∅ 0 := by
    unfold Dn
    rw [bigSep_cells, oct_sep, oct_sep]
    unfold quad
    iintro ⟨⟨A, B⟩, C, D⟩
    isplitl [A]; · iexact A
    isplitl [B]; · iexact B
    isplitl [C]; · iexact C
    iexact D
  have h5 := Rounds.cells_close ER (sched Pv) Finset.univ (fun i : Fin 4 × Fin 4 × Fin 2 => cell i.1 i.2.1 i.2.2 c)
      (fun i => K (cell i.1 i.2.1 i.2.2 c)) (Es := Set.univ) (fun _ _ => Set.mem_univ _) (fun _ _ h => h) (fun _ => 1)
      (fun i _ r hr => duties_later Pv _ r hr)
  refine .trans ?_ h5
  iintro ⟨#HI, H⟩
  iapply (bigSep_with_persistent (R := invs Pv K) (fun i _ => BIClass.sep_mono (inv_cell Pv K i.1 i.2.1 i.2.2 c) .rfl))
  isplitr; · iexact HI
  iapply h4; iexact H

/-! ## The body's own pre- and postcondition from whole buffers -/

/-- The landing slots of a device with the news that their arrival cells are open, sorted by partner. -/
theorem to_offers (c : Dev nD) (f g : Vec F S4x2x256x1024 .bf16) :
    iprop(whole c (Memref.whole cc1_scratch3) f ∗ whole c (Memref.whole cc1_scratch4) g
        ∗ oct (fun q b => reached ER (cell 1 q b c) 0) ∗ oct (fun q b => reached ER (cell 3 q b c) 0))
      ⊢ iprop(offers (F := F) 0 c ∗ offers 1 c) := by
  rw [oct_R1, oct_R2]
  have h1 : iprop(oct (fun q b => r1At (F := F) q b c f) ∗ oct (fun q b => reached ER (cell 1 q b c) 0))
      ⊢ iprop(quad (offer1 (F := F) 0 c) ∗ quad (offer1 1 c)) := by
    rw [← oct_sep, oct_cols]
    refine BIClass.sep_mono (quad_mono fun q => ?_) (quad_mono fun q => ?_) <;>
    · unfold offer1
      iintro ⟨H, Hr⟩
      isplitl [H]; · iexists f; iexact H
      iexact Hr
  have h2 : iprop(oct (fun q b => r2At (F := F) q b c g) ∗ oct (fun q b => reached ER (cell 3 q b c) 0))
      ⊢ iprop(quad (offer2 (F := F) 1 c) ∗ quad (offer2 0 c)) := by
    rw [← oct_sep, oct_cols]
    refine BIClass.sep_mono (quad_mono fun q => ?_) (quad_mono fun q => ?_) <;>
    · unfold offer2
      iintro ⟨H, Hr⟩
      isplitl [H]; · iexists g; iexact H
      iexact Hr
  iintro ⟨A, B, C, D⟩
  ihave ⟨X0, X1⟩ := h1 $$ [A C]
  · isplitl [A] <;> iassumption
  ihave ⟨Y1, Y0⟩ := h2 $$ [B D]
  · isplitl [B] <;> iassumption
  unfold offers
  isplitl [X0 Y0]; · isplitl [X0] <;> iassumption
  isplitl [X1] <;> iassumption

/-- A device's five scratch buffers. -/
def scratch (c : Dev nD) : sProp 𝕄 :=
  iprop((∃ f, whole c (Memref.whole cc1_scratch0) f) ∗ (∃ f, whole c (Memref.whole cc1_scratch1) f) ∗ (∃ f, whole c (Memref.whole cc1_scratch2) f)
    ∗ (∃ f, whole c (Memref.whole cc1_scratch3) f) ∗ (∃ f, whole c (Memref.whole cc1_scratch4) f))

theorem to_pre (c : Dev nD) (aq : Vec F S2048x1024 .bf16) (ak av : Vec F S8x2048x128 .bf16) (aw : Vec F S1024x1024 .bf16) :
    iprop(ins c aq ak av ∗ whole c (Memref.whole cc1_stg3_0) aw ∗ (∃ f, whole c (Memref.whole cc1_stg4_0) f) ∗ scratch c ∗ Opened Pv c ∗ ow c 18)
      ⊢ iprop((∃ K, invs Pv K) ∗ lev ∗ Pre (F := F) c aq ak av aw) := by
  unfold scratch Opened
  iintro ⟨Hins, Hw, Ho, ⟨S0, ⟨%f1, S1⟩, ⟨%f2, S2⟩, ⟨%f3, S3⟩, ⟨%f4, S4⟩⟩, ⟨HI, Hlev, Hb, Hbar, T0, T1, R1, R3⟩, HO⟩
  isplitl [HI]; · iexact HI
  isplitl [Hlev]; · iexact Hlev
  unfold Pre
  isplitl [Hins]; · iexact Hins
  isplitl [Hw]; · iexact Hw
  isplitl [Ho]; · iexact Ho
  isplitl [S0]; · iexact S0
  isplitl [S1]; · iapply (cut_W c f1); iexact S1
  isplitl [S2]
  · have h : (whole c (Memref.whole cc1_scratch2) f2 : sProp 𝕄) ⊢ oct fun q b => iprop(∃ f, sAt (F := F) q b c f) := by
      rw [oct_S]; refine oct_mono fun q b => ?_
      iintro H; iexists f2; iexact H
    iapply h; iexact S2
  isplitl [Hb]; · iexact Hb
  isplitl [S3 S4 R1 R3]
  · iapply (to_offers c f3 f4)
    isplitl [S3]; · iexact S3
    isplitl [S4]; · iexact S4
    isplitl [R1] <;> iassumption
  isplitl [Hbar]; · iexact Hbar
  isplitl [T0]; · iexact T0
  isplitl [T1] <;> iassumption

theorem of_post (c : Dev nD) (aq : Vec F S2048x1024 .bf16) (ak av : Vec F S8x2048x128 .bf16) (aw : Vec F S1024x1024 .bf16) (K : GSem nD τ sig → ℕ) :
    iprop(invs Pv K ∗ Post c aq ak av aw Pv)
      ⊢ iprop(|={Set.univ}=> (ins c aq ak av ∗ whole c (Memref.whole cc1_stg3_0) aw ∗ whole c (Memref.whole cc1_stg4_0) (outOf (sum1 Pv c) (landed2 Pv c)) ∗ scratch c
        ∗ Pipeline.ownSems0 osem c ∗ fam.barPos ER (sched Pv) c 1 ∅ ∗ ow c 0)) := by
  unfold Post scratch TalkSites.Fam.barPos
  rw [bigSep_empty]
  iintro ⟨#HI, Hins, Hw, Ho, S0, P, S, R1, R2, Hbar, D0, D1, HO⟩
  imod (closed Pv c K) $$ [D0 D1] with Hs
  · isplitr; · iexact HI
    isplitl [D0] <;> iassumption
  imodintro
  isplitl [Hins]; · iexact Hins
  isplitl [Hw]; · iexact Hw
  isplitl [Ho]; · iexact Ho
  isplitl [S0 P S R1 R2]
  · isplitl [S0]; · iexact S0
    isplitl [P]; · iapply (join_P c (Pv c)); iexact P
    isplitl [S]; · iexists (sum1 Pv c); rw [oct_S]; iexact S
    isplitl [R1]; · iexists (landed1 Pv c); rw [oct_R1]; iexact R1
    iexists (landed2 Pv c); rw [oct_R2]; iexact R2
  isplitl [Hs]; · iexact Hs
  isplitl [Hbar]
  · isplitr; · iexists K; unfold invs; iexact HI
    isplitl [Hbar]; · iexact Hbar
    iempintro
  iexact HO

end Cert.KernelIdeal.Talk

end
-- ==== Proof.KernelIdeal.Regs.lean ====
/-
  The two calls of the program as regions: what the first leaves, what the second leaves, and their bodies run.
-/
module

public import proofs.«01_k».proof.Proof.KernelIdeal.Split
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit
public import Idealize.ShloMosaic.Lib.Ring.AtN
public import Idealize.ShloMosaic.Lib.Rounds.Family
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig ℕ (Elt F) ℕ UU ℕ

open Idealize.ShloMosaic.Pipeline (Dat Cfg BodyObligation)

variable (m : (ℓ : Loc nD τ sig) → Buf (Elt F) ℓ)

/-! ## Contents -/

/-- The queries device c projects; -/
def qv (c : Dev nD) : Vec F S2048x1024 .bf16 := k0_pay1 (V1 m c main_v5) (V1 m c main_arg1)
/-- its partial product; -/
def pv (c : Dev nD) : Vec F S2048x1024 .bf16 := partOf (qv m c) (V1 m c main_v12) (V1 m c main_v19) (V1 m c main_arg4)
/-- and the sum over the devices as it adds it up. -/
def ov (c : Dev nD) : Vec F S2048x1024 .f32 := outOf (sum1 (pv m) c) (landed2 (pv m) c)
/-- What the two calls leave. -/
def outs : Outs (F := F) := fun _ r c =>
  Function.update (Function.update (V0 m c) (Proc.devRef .tc main_v20) (qv m c)) (Proc.devRef .tc main_v21) (ov m c) (Proc.devRef .tc r)
theorem outs_q (c : Dev nD) : outs m 2 main_v20 c = qv m c := by
  unfold outs
  rw [Function.update_of_ne (StableHlo.devRef_ne_of_ne (by decide)), Function.update_self]
theorem outs_o (c : Dev nD) : outs m 3 main_v21 c = ov m c := by
  unfold outs; rw [Function.update_self]
theorem V2_q (c : Dev nD) : V2 m (outs m) c main_v20 = qv m c := by
  show Function.update _ _ _ _ = _
  rw [Function.update_self, outs_q]
theorem V3_o (c : Dev nD) : V3 m (outs m) c main_v21 = ov m c := by
  show Function.update _ _ _ _ = _
  rw [Function.update_self, outs_o]

/-! ## The first call -/

def dat0 (c : Dev nD) : Dat τ (Elt F) ℕ ℕ UU ℕ cfg0 c where
  A w := V1 m c (Proc.devRef .tc (Pipeline.arrRef spec0 w))
  after w _ := match w with
    | ⟨0, _⟩ => (V1 m c main_v5 : Vec F S2048x1024 .bf16)
    | ⟨1, _⟩ => (V1 m c main_arg1 : Vec F S1024x1024 .bf16)
    | ⟨2, _⟩ => qv m c
  Φ _ := iprop(Pipeline.scopedRest spec0 c ∗ ∃ r, prngReg c r)
  q _ := fullShare
  owed _ := owed c 18

theorem before0_0 (c : Dev nD) (t : Fin cfg0.N) (d) : (dat0 m c).before 0 t d = (V1 m c main_v5 : Vec F S2048x1024 .bf16) := by
  unfold Dat.before
  rw [if_pos (fetch0_0 t), fin_N0 t]
  funext i
  show (V1 m c main_v5 : Vec F S2048x1024 .bf16) ((win0_0.blk t0_0).view.emb i) = _
  refine congrArg _ (funext fun a => Fin.ext ?_)
  match a with
  | ⟨0, _⟩ => show 0 + 1 * (i 0).val = (i 0).val; omega
  | ⟨1, _⟩ => show 0 + 1 * (i 1).val = (i 1).val; omega
theorem before0_1 (c : Dev nD) (t : Fin cfg0.N) (d) : (dat0 m c).before 1 t d = (V1 m c main_arg1 : Vec F S1024x1024 .bf16) := by
  unfold Dat.before
  rw [if_pos (fetch0_1 t), fin_N0 t]
  funext i
  show (V1 m c main_arg1 : Vec F S1024x1024 .bf16) ((win0_1.blk t0_0).view.emb i) = _
  refine congrArg _ (funext fun a => Fin.ext ?_)
  match a with
  | ⟨0, _⟩ => show 0 + 1 * (i 0).val = (i 0).val; omega
  | ⟨1, _⟩ => show 0 + 1 * (i 1).val = (i 1).val; omega

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]
/-- A staging buffer of device c's, at contents equal to `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_eq (c : Dev nD) (b : Ref sig .tc) (X : b.ty.Contents (Elt F)) : stg c b X = ((((c : Thread nD τ).loc b) ↦{fullShare} X) : sProp 𝕄) := by
  unfold stg
  have h1 : iprop(∃ f : Buf (Elt F) ((c : Thread nD τ).loc b), ⌜f = X⌝ ∗ (((c : Thread nD τ).loc b) ↦{fullShare} f))
      ⊢ ((((c : Thread nD τ).loc b) ↦{fullShare} X) : sProp 𝕄) := by
    iintro ⟨%f, %h, H⟩; subst h; iexact H
  have h2 : ((((c : Thread nD τ).loc b) ↦{fullShare} X) : sProp 𝕄)
      ⊢ iprop(∃ f : Buf (Elt F) ((c : Thread nD τ).loc b), ⌜f = X⌝ ∗ (((c : Thread nD τ).loc b) ↦{fullShare} f)) := by
    iintro H; iexists X; isplitr; · ipureintro; rfl
    iexact H
  exact BI.Entails.antisymm h1 h2

abbrev rX : Rect S2048x1024 := Rect.unit (s := S2048x1024) ![0, 0] S2048x1024.size inb_S2048x1024_S2048x1024_0_0
theorem rX_idx (i : S2048x1024.Idx) : rX.toLoadRect.idx i = i := by
  refine funext fun a => Fin.ext ?_
  match a with
  | ⟨0, _⟩ => show 0 + 1 * (i 0).val = (i 0).val; omega
  | ⟨1, _⟩ => show 0 + 1 * (i 1).val = (i 1).val; omega
theorem rAllW_idx (i : S1024x1024.Idx) : rAllW.toLoadRect.idx i = i := by
  refine funext fun a => Fin.ext ?_
  match a with
  | ⟨0, _⟩ => show 0 + 1 * (i 0).val = (i 0).val; omega
  | ⟨1, _⟩ => show 0 + 1 * (i 1).val = (i 1).val; omega

section Steps
theorem ld_X (c : Dev nD) (Q : PUnit.{1} → sProp 𝕄) (f : Vec F S2048x1024 .bf16) {ht} (k : Vec F S2048x1024 .bf16 → Pg F) :
    whole c (Memref.whole cc0_stg0_0) f ⊢ iprop((whole c (Memref.whole cc0_stg0_0) f -∗ gos c (k f) Q)
      -∗ gos c (.op (.load (Memref.whole cc0_stg0_0) rX.toLoadRect ht) k) Q) := by
  have h : whole c (Memref.whole cc0_stg0_0) f ⊢ iprop((whole c (Memref.whole cc0_stg0_0) f -∗ gos c (k (fun x => f (rX.toLoadRect.idx x))) Q)
      -∗ gos c (.op (.load (Memref.whole cc0_stg0_0) rX.toLoadRect ht) k) Q) :=
    wp_load_rect 𝒱₀ (c : Thread nD τ) none Set.univ (m := Memref.whole cc0_stg0_0) (r := rX) (Finset.subset_univ _)
  have hr : (fun x => f (rX.toLoadRect.idx x)) = f := funext fun x => congrArg f (rX_idx x)
  refine (?_ : ∀ g : Vec F S2048x1024 .bf16, g = f → (whole c (Memref.whole cc0_stg0_0) f ⊢ iprop((whole c (Memref.whole cc0_stg0_0) f -∗ gos c (k g) Q)
      -∗ gos c (.op (.load (Memref.whole cc0_stg0_0) rX.toLoadRect ht) k) Q)) → _) _ hr h
  rintro g rfl h; exact h
theorem ld_Wq (c : Dev nD) (Q : PUnit.{1} → sProp 𝕄) (f : Vec F S1024x1024 .bf16) {ht} (k : Vec F S1024x1024 .bf16 → Pg F) :
    whole c (Memref.whole cc0_stg1_0) f ⊢ iprop((whole c (Memref.whole cc0_stg1_0) f -∗ gos c (k f) Q)
      -∗ gos c (.op (.load (Memref.whole cc0_stg1_0) rAllW.toLoadRect ht) k) Q) := by
  have h : whole c (Memref.whole cc0_stg1_0) f ⊢ iprop((whole c (Memref.whole cc0_stg1_0) f -∗ gos c (k (fun x => f (rAllW.toLoadRect.idx x))) Q)
      -∗ gos c (.op (.load (Memref.whole cc0_stg1_0) rAllW.toLoadRect ht) k) Q) :=
    wp_load_rect 𝒱₀ (c : Thread nD τ) none Set.univ (m := Memref.whole cc0_stg1_0) (r := rAllW) (Finset.subset_univ _)
  have hr : (fun x => f (rAllW.toLoadRect.idx x)) = f := funext fun x => congrArg f (rAllW_idx x)
  refine (?_ : ∀ g : Vec F S1024x1024 .bf16, g = f → (whole c (Memref.whole cc0_stg1_0) f ⊢ iprop((whole c (Memref.whole cc0_stg1_0) f -∗ gos c (k g) Q)
      -∗ gos c (.op (.load (Memref.whole cc0_stg1_0) rAllW.toLoadRect ht) k) Q)) → _) _ hr h
  rintro g rfl h; exact h
theorem ld_Q (c : Dev nD) (Q : PUnit.{1} → sProp 𝕄) (f : Vec F S2048x1024 .bf16) {ht} (k : Vec F S2048x1024 .bf16 → Pg F) :
    whole c (Memref.whole cc0_stg2_0) f ⊢ iprop((whole c (Memref.whole cc0_stg2_0) f -∗ gos c (k (fun x => f (rX.toLoadRect.idx x))) Q)
      -∗ gos c (.op (.load (Memref.whole cc0_stg2_0) rX.toLoadRect ht) k) Q) :=
  wp_load_rect 𝒱₀ (c : Thread nD τ) none Set.univ (m := Memref.whole cc0_stg2_0) (r := rX) (Finset.subset_univ _)
theorem st_Q (c : Dev nD) (Q : PUnit.{1} → sProp 𝕄) (f w : Vec F S2048x1024 .bf16) {h1 h2} (k : PUnit → Pg F) :
    whole c (Memref.whole cc0_stg2_0) f ⊢ iprop((whole c (Memref.whole cc0_stg2_0) w -∗ gos c (k ⟨⟩) Q)
      -∗ gos c (.op (.store (Memref.whole cc0_stg2_0) rX w Finset.univ h1 h2) k) Q) := by
  have h : whole c (Memref.whole cc0_stg2_0) f ⊢ iprop((whole c (Memref.whole cc0_stg2_0) (((Memref.whole cc0_stg2_0).access rX).write (Elt F) f w Finset.univ) -∗ gos c (k ⟨⟩) Q)
      -∗ gos c (.op (.store (Memref.whole cc0_stg2_0) rX w Finset.univ h1 h2) k) Q) :=
    wp_store 𝒱₀ (c : Thread nD τ) none Set.univ (m := Memref.whole cc0_stg2_0) (r := rX) (Finset.subset_univ _)
  have hr : ((Memref.whole cc0_stg2_0).access rX).write (Elt F) f w Finset.univ = w :=
    funext fun i => put_at ((Memref.whole cc0_stg2_0).access rX) f w (rX_idx i)
  refine (?_ : ∀ g : Vec F S2048x1024 .bf16, g = w → (whole c (Memref.whole cc0_stg2_0) f ⊢ iprop((whole c (Memref.whole cc0_stg2_0) g -∗ gos c (k ⟨⟩) Q)
      -∗ gos c (.op (.store (Memref.whole cc0_stg2_0) rX w Finset.univ h1 h2) k) Q)) → _) _ hr h
  rintro g rfl h; exact h
end Steps

/-- The first body, run. -/
theorem run_q (c : Dev nD) (x : Vec F S2048x1024 .bf16) (w : Vec F S1024x1024 .bf16) (o : Vec F S2048x1024 .bf16) (Q : PUnit.{1} → sProp 𝕄) :
    iprop(whole c (Memref.whole cc0_stg0_0) x ∗ whole c (Memref.whole cc0_stg1_0) w ∗ whole c (Memref.whole cc0_stg2_0) o)
      ⊢ iprop(((whole c (Memref.whole cc0_stg0_0) x ∗ whole c (Memref.whole cc0_stg1_0) w ∗ whole c (Memref.whole cc0_stg2_0) (k0_pay1 x w)) -∗ Q ⟨⟩)
        -∗ wp frame (wpE (defs₀ (F := F)) 𝒱₀ (c : Thread nD τ) none) Set.univ
          (cc0__qproj_body (Memref.whole cc0_stg0_0) (Memref.isWhole_whole _) (Memref.whole cc0_stg1_0) (Memref.isWhole_whole _) (Memref.whole cc0_stg2_0) (Memref.isWhole_whole _)) Q) := by
  rw [cc0__qproj_body_eq_skeleton]
  unfold cc0__qproj_body_skel
  iintro ⟨Hx, Hw, Ho⟩ HQ
  iapply (ld_X c Q x _) $$ Hx
  iintro Hx
  iapply (ld_Wq c Q w _) $$ Hw
  iintro Hw
  iapply (ld_Q c Q o _) $$ Ho
  iintro Ho
  iapply (st_Q c Q o _ _) $$ Ho
  iintro Ho
  unfold gos
  rw [show ((Prog.ret PUnit.unit : Prog (TpuEff nD τ sig (Elt F) Λ₀ .tc) PUnit).bind fun _ => Pure.pure PUnit.unit) = .ret PUnit.unit from rfl, wp_ret]
  imodintro
  iapply HQ
  isplitl [Hx]; · iexact Hx
  isplitl [Hw] <;> iassumption

set_option maxRecDepth 4000 in
def pre0 (c : Dev nD) : sProp 𝕄 :=
  iprop((dat0 m c).Φ t0_0.castSucc ∗ (dat0 m c).owesAt 0 t0_0.castSucc
    ∗ (∃ d, stg c cc0_stg0_0 ((dat0 m c).before 0 t0_0 d)) ∗ (∃ d, stg c cc0_stg1_0 ((dat0 m c).before 1 t0_0 d)) ∗ (∃ d, stg c cc0_stg2_0 ((dat0 m c).before 2 t0_0 d)))
set_option maxRecDepth 4000 in
def post0 (c : Dev nD) : sProp 𝕄 :=
  iprop((dat0 m c).Φ t0_0.succ ∗ (dat0 m c).owesAt 0 t0_0.succ
    ∗ stg c cc0_stg0_0 ((dat0 m c).after 0 t0_0) ∗ stg c cc0_stg1_0 ((dat0 m c).after 1 t0_0) ∗ stg c cc0_stg2_0 ((dat0 m c).after 2 t0_0))

set_option maxRecDepth 4000 in
/-- The first call's body obligation. -/
theorem body0 (c : Dev nD) : BodyObligation (dat0 m c) (defs₀ (F := F)) 𝒱₀ 0 Set.univ := fun t => by
  rw [fin_N0 t]
  rw [bigSep_W0, bigSep_W0]
  simp only [owns_whole_eq]
  show pre0 m c ⊢ wp frame (wpE (defs₀ (F := F)) 𝒱₀ c none) Set.univ
    (cc0__qproj_body (Memref.whole cc0_stg0_0) (Memref.isWhole_whole _) (Memref.whole cc0_stg1_0) (Memref.isWhole_whole _) (Memref.whole cc0_stg2_0) (Memref.isWhole_whole _))
    (fun _ => post0 m c)
  unfold pre0
  simp only [before0_0, before0_1, stg_eq]
  iintro ⟨HΦ, HO, ⟨%d0, Hx⟩, ⟨%d1, Hw⟩, ⟨%d2, Ho⟩⟩
  iapply (run_q c (V1 m c main_v5) (V1 m c main_arg1) ((dat0 m c).before 2 t0_0 d2) (fun _ => post0 m c)) $$ [Hx Hw Ho]
  · isplitl [Hx]; · iexact Hx
    isplitl [Hw] <;> iassumption
  iintro ⟨Hx, Hw, Ho⟩
  unfold post0
  simp only [stg_eq]
  ihave HΦ := (show (dat0 m c).Φ t0_0.castSucc ⊢ (dat0 m c).Φ t0_0.succ from .rfl) $$ HΦ
  ihave HO := (show (dat0 m c).owesAt 0 t0_0.castSucc ⊢ (dat0 m c).owesAt 0 t0_0.succ from .rfl) $$ HO
  isplitl [HΦ]; · iexact HΦ
  isplitl [HO]; · iexact HO
  isplitl [Hx]; · iexact Hx
  isplitl [Hw]; · iexact Hw
  iexact Ho

/-! ## The second call -/

/-- `owed` before the point, nothing after it. -/
def due1 (c : Dev nD) (n : ℕ) : CellTallies nD τ sig ℕ := if n = 0 then owed c 18 else 0

def dat1 (c : Dev nD) : Dat τ (Elt F) ℕ ℕ UU ℕ cfg1 c where
  A w := V2 m (outs m) c (Proc.devRef .tc (Pipeline.arrRef spec1 w))
  after w _ := match w with
    | ⟨0, _⟩ => qv m c
    | ⟨1, _⟩ => (V1 m c main_v12 : Vec F S8x2048x128 .bf16)
    | ⟨2, _⟩ => (V1 m c main_v19 : Vec F S8x2048x128 .bf16)
    | ⟨3, _⟩ => (V1 m c main_arg4 : Vec F S1024x1024 .bf16)
    | ⟨4, _⟩ => ov m c
  Φ t := match t with
    | ⟨0, _⟩ => iprop(Pipeline.scopedRest spec1 c ∗ (∃ r, prngReg c r) ∗ Opened (pv m) c)
    | ⟨_ + 1, _⟩ => iprop(Pipeline.scopedRest spec1 c ∗ (∃ r, prngReg c r) ∗ Pipeline.ownSems0 osem c ∗ fam.barPos ER (sched (pv m)) c 1 ∅)
  q _ := fullShare
  owed t := due1 c t.val

theorem A1_0 (c : Dev nD) : (dat1 m c).A 0 = qv m c := V2_q m c
theorem before1_0 (c : Dev nD) (t : Fin cfg1.N) (d) : (dat1 m c).before 0 t d = qv m c := by
  rw [← A1_0 m c]
  unfold Dat.before
  rw [if_pos (fetch1_0 t), fin_N1 t]
  funext i
  show (dat1 m c).A 0 ((win1_0.blk t1_0).view.emb i) = _
  refine congrArg _ (funext fun a => Fin.ext ?_)
  match a with
  | ⟨0, _⟩ => show 0 + 1 * (i 0).val = (i 0).val; omega
  | ⟨1, _⟩ => show 0 + 1 * (i 1).val = (i 1).val; omega
theorem A1_1 (c : Dev nD) : (dat1 m c).A 1 = (V1 m c main_v12 : Vec F S8x2048x128 .bf16) := V2_of m (outs m) c main_v12 (by decide)
theorem before1_1 (c : Dev nD) (t : Fin cfg1.N) (d) : (dat1 m c).before 1 t d = (V1 m c main_v12 : Vec F S8x2048x128 .bf16) := by
  rw [← A1_1 m c]
  unfold Dat.before
  rw [if_pos (fetch1_1 t), fin_N1 t]
  funext i
  show (dat1 m c).A 1 ((win1_1.blk t1_0).view.emb i) = _
  refine congrArg _ (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
theorem A1_2 (c : Dev nD) : (dat1 m c).A 2 = (V1 m c main_v19 : Vec F S8x2048x128 .bf16) := V2_of m (outs m) c main_v19 (by decide)
theorem before1_2 (c : Dev nD) (t : Fin cfg1.N) (d) : (dat1 m c).before 2 t d = (V1 m c main_v19 : Vec F S8x2048x128 .bf16) := by
  rw [← A1_2 m c]
  unfold Dat.before
  rw [if_pos (fetch1_2 t), fin_N1 t]
  funext i
  show (dat1 m c).A 2 ((win1_2.blk t1_0).view.emb i) = _
  refine congrArg _ (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
theorem A1_3 (c : Dev nD) : (dat1 m c).A 3 = (V1 m c main_arg4 : Vec F S1024x1024 .bf16) := V2_of m (outs m) c main_arg4 (by decide)
theorem before1_3 (c : Dev nD) (t : Fin cfg1.N) (d) : (dat1 m c).before 3 t d = (V1 m c main_arg4 : Vec F S1024x1024 .bf16) := by
  rw [← A1_3 m c]
  unfold Dat.before
  rw [if_pos (fetch1_3 t), fin_N1 t]
  funext i
  show (dat1 m c).A 3 ((win1_3.blk t1_0).view.emb i) = _
  refine congrArg _ (funext fun a => Fin.ext ?_)
  match a with
  | ⟨0, _⟩ => show 0 + 1 * (i 0).val = (i 0).val; omega
  | ⟨1, _⟩ => show 0 + 1 * (i 1).val = (i 1).val; omega

/-- The barrier's and the copies' run, between the forms the pipeline calls the body with. -/
def pre1 (c : Dev nD) : sProp 𝕄 :=
  iprop((dat1 m c).Φ t1_0.castSucc ∗ (dat1 m c).owesAt 0 t1_0.castSucc
    ∗ (∃ d, stg c cc1_stg0_0 ((dat1 m c).before 0 t1_0 d)) ∗ (∃ d, stg c cc1_stg1_0 ((dat1 m c).before 1 t1_0 d)) ∗ (∃ d, stg c cc1_stg2_0 ((dat1 m c).before 2 t1_0 d))
    ∗ (∃ d, stg c cc1_stg3_0 ((dat1 m c).before 3 t1_0 d)) ∗ (∃ d, stg c cc1_stg4_0 ((dat1 m c).before 4 t1_0 d)))
def post1 (c : Dev nD) : sProp 𝕄 :=
  iprop((dat1 m c).Φ t1_0.succ ∗ (dat1 m c).owesAt 0 t1_0.succ
    ∗ stg c cc1_stg0_0 ((dat1 m c).after 0 t1_0) ∗ stg c cc1_stg1_0 ((dat1 m c).after 1 t1_0) ∗ stg c cc1_stg2_0 ((dat1 m c).after 2 t1_0)
    ∗ stg c cc1_stg3_0 ((dat1 m c).after 3 t1_0) ∗ stg c cc1_stg4_0 ((dat1 m c).after 4 t1_0))

theorem owes_in (c : Dev nD) : (dat1 m c).owesAt 0 t1_0.castSucc ⊢ ow c 18 := by
  unfold Dat.owesAt Pipeline.owesWithin ow
  rw [show (dat1 m c).owed t1_0.castSucc = owed c 18 from rfl]
  iintro ⟨%W, -, H⟩; iexists W; iexact H
theorem owes_out (c : Dev nD) : ow c 0 ⊢ (dat1 m c).owesAt 0 t1_0.succ := by
  unfold Dat.owesAt Pipeline.owesWithin Dat.bound ow
  rw [show (dat1 m c).owed t1_0.succ = owed c 0 from rfl, show (dat1 m c).recorded t1_0.succ = Set.univ from rfl]
  iintro ⟨%W, H⟩; iexists W
  isplitr; · ipureintro; exact fun _ _ => Or.inl trivial
  iexact H

/-- The second body, between whole buffers. -/
theorem run_m (c : Dev nD) (R : sProp 𝕄) (Q : PUnit.{1} → sProp 𝕄)
    (hQ : iprop(R ∗ ins c (qv m c) (V1 m c main_v12) (V1 m c main_v19) ∗ whole c (Memref.whole cc1_stg3_0) (V1 m c main_arg4)
      ∗ whole c (Memref.whole cc1_stg4_0) (ov m c) ∗ scratch c ∗ Pipeline.ownSems0 osem c ∗ fam.barPos ER (sched (pv m)) c 1 ∅ ∗ ow c 0) ⊢ Q ⟨⟩) :
    iprop(R ∗ ins c (qv m c) (V1 m c main_v12) (V1 m c main_v19) ∗ whole c (Memref.whole cc1_stg3_0) (V1 m c main_arg4) ∗ (∃ f, whole c (Memref.whole cc1_stg4_0) f)
      ∗ scratch c ∗ Opened (pv m) c ∗ ow c 18)
      ⊢ gos c (printed (F := F)) Q := by
  rw [printed_eq]
  iintro ⟨HR, H⟩
  ihave ⟨⟨%K, #HI⟩, #Hl, Hp⟩ := (to_pre (pv m) c (qv m c) (V1 m c main_v12) (V1 m c main_v19) (V1 m c main_arg4)) $$ H
  iapply (wp_fupd)
  iapply (run_mega c (qv m c) (V1 m c main_v12) (V1 m c main_v19) (V1 m c main_arg4) (pv m) K (fun x => iprop(|={Set.univ}=> Q x)) rfl) $$ [Hp]
  · isplitr; · iexact HI
    isplitr; · iexact Hl
    iexact Hp
  iintro Hpost
  imod (of_post (pv m) c (qv m c) (V1 m c main_v12) (V1 m c main_v19) (V1 m c main_arg4) K) $$ [Hpost] with H
  · isplitr; · iexact HI
    iexact Hpost
  imodintro
  iapply hQ
  isplitl [HR]; · iexact HR
  iexact H

/-- The scoped buffers with the kernel's own scratch apart. -/
def others (c : Dev nD) : sProp 𝕄 :=
  iprop((∃ f, whole c (Memref.whole cc0_stg0_0) f) ∗ (∃ f, whole c (Memref.whole cc0_stg1_0) f) ∗ (∃ f, whole c (Memref.whole cc0_stg2_0) f))
theorem rest_out (c : Dev nD) : (Pipeline.scopedRest spec1 c : sProp 𝕄) ⊢ iprop(others (F := F) c ∗ scratch c) := by
  rw [scopedRest1_eq]
  unfold others scratch
  iintro ⟨A, B, C, D⟩
  isplitl [A B C]
  · isplitl [A]; · iexact A
    isplitl [B]; · iexact B
    iexact C
  iexact D
theorem rest_in (c : Dev nD) : iprop(others (F := F) c ∗ scratch c) ⊢ (Pipeline.scopedRest spec1 c : sProp 𝕄) := by
  rw [scopedRest1_eq]
  unfold others scratch
  iintro ⟨⟨A, B, C⟩, D⟩
  isplitl [A]; · iexact A
  isplitl [B]; · iexact B
  isplitl [C]; · iexact C
  iexact D

set_option maxRecDepth 65536 in
/-- The second call's body obligation. -/
theorem body1 (c : Dev nD) : BodyObligation (dat1 m c) (defs₀ (F := F)) 𝒱₀ 0 Set.univ := fun t => by
  rw [fin_N1 t]
  rw [bigSep_W1, bigSep_W1]
  simp only [owns_whole_eq]
  show pre1 m c ⊢ gos c (printed (F := F)) (fun _ => post1 m c)
  unfold pre1
  simp only [before1_0, before1_1, before1_2, before1_3, stg_eq]
  rw [show (dat1 m c).Φ t1_0.castSucc = iprop(Pipeline.scopedRest spec1 c ∗ (∃ r, prngReg c r) ∗ Opened (pv m) c) from rfl]
  have hQ : iprop((others (F := F) c ∗ ∃ r, prngReg c r) ∗ ins c (qv m c) (V1 m c main_v12) (V1 m c main_v19) ∗ whole c (Memref.whole cc1_stg3_0) (V1 m c main_arg4)
      ∗ whole c (Memref.whole cc1_stg4_0) (ov m c) ∗ scratch c ∗ Pipeline.ownSems0 osem c ∗ fam.barPos ER (sched (pv m)) c 1 ∅ ∗ ow c 0) ⊢ post1 m c := by
    unfold post1 ins
    simp only [stg_eq]
    rw [show (dat1 m c).Φ t1_0.succ = iprop(Pipeline.scopedRest spec1 c ∗ (∃ r, prngReg c r) ∗ Pipeline.ownSems0 osem c ∗ fam.barPos ER (sched (pv m)) c 1 ∅) from rfl]
    iintro ⟨⟨Hot, Hp⟩, ⟨H0, H1, H2⟩, H3, H4, Hs, Hos, Hb, HO⟩
    isplitl [Hot Hp Hs Hos Hb]
    · isplitl [Hot Hs]; · iapply (rest_in c); isplitl [Hot] <;> iassumption
      isplitl [Hp]; · iexact Hp
      isplitl [Hos] <;> iassumption
    isplitl [HO]; · iapply (owes_out m c); iexact HO
    isplitl [H0]; · iexact H0
    isplitl [H1]; · iexact H1
    isplitl [H2]; · iexact H2
    isplitl [H3]; · iexact H3
    iexact H4
  refine .trans ?_ (run_m m c iprop(others (F := F) c ∗ ∃ r, prngReg c r) (fun _ => post1 m c) hQ)
  iintro ⟨⟨Hr, Hp, Hop⟩, HO, ⟨%d0, H0⟩, ⟨%d1, H1⟩, ⟨%d2, H2⟩, ⟨%d3, H3⟩, ⟨%d4, H4⟩⟩
  ihave ⟨Hot, Hs⟩ := (rest_out c) $$ Hr
  ihave HO := (owes_in m c) $$ HO
  unfold ins
  isplitl [Hot Hp]; · isplitl [Hot] <;> iassumption
  isplitl [H0 H1 H2]
  · isplitl [H0]; · iexact H0
    isplitl [H1]; · iexact H1
    iexact H2
  isplitl [H3]; · iexact H3
  isplitl [H4]; · iexists ((dat1 m c).before 4 t1_0 d4); iexact H4
  isplitl [Hs]; · iexact Hs
  isplitl [Hop] <;> iassumption

/-! ## The arrays after each call -/

theorem arrAt0 (c : Dev nD) (w : Fin cfg0.W) : (dat0 m c).arrAt w cfg0.N = V2 m (outs m) c (Proc.devRef .tc (Pipeline.arrRef spec0 w)) := by
  match w with
  | ⟨0, _⟩ => exact ((dat0 m c).arrAt_in (0 : Fin 3) rfl _).trans (V2_of m (outs m) c main_v5 (by decide)).symm
  | ⟨1, _⟩ => exact ((dat0 m c).arrAt_in (1 : Fin 3) rfl _).trans (V2_of m (outs m) c main_arg1 (by decide)).symm
  | ⟨2, _⟩ =>
    refine Eq.trans ?_ (V2_q m c).symm
    exact (dat0 m c).arrAt_eq_of_after_last (2 : Fin 3) t0_0 (by decide +kernel) (qv m c) (fun j => rfl)
theorem arrAt1 (c : Dev nD) (w : Fin cfg1.W) : (dat1 m c).arrAt w cfg1.N = V3 m (outs m) c (Proc.devRef .tc (Pipeline.arrRef spec1 w)) := by
  match w with
  | ⟨0, _⟩ => exact ((dat1 m c).arrAt_in (0 : Fin 5) rfl _).trans (V3_of m (outs m) c main_v20 (by decide)).symm
  | ⟨1, _⟩ => exact ((dat1 m c).arrAt_in (1 : Fin 5) rfl _).trans (V3_of m (outs m) c main_v12 (by decide)).symm
  | ⟨2, _⟩ => exact ((dat1 m c).arrAt_in (2 : Fin 5) rfl _).trans (V3_of m (outs m) c main_v19 (by decide)).symm
  | ⟨3, _⟩ => exact ((dat1 m c).arrAt_in (3 : Fin 5) rfl _).trans (V3_of m (outs m) c main_arg4 (by decide)).symm
  | ⟨4, _⟩ =>
    refine Eq.trans ?_ (V3_o m c).symm
    exact (dat1 m c).arrAt_eq_of_after_last (4 : Fin 5) t1_0 (by decide +kernel) (ov m c) (fun j => rfl)

end Cert.KernelIdeal.Talk

end
-- ==== Proof.KernelIdeal.Launch.lean ====
/-
  The program as a chain of its host stretches and its two calls, run from the launch to the end.
-/
module

public import proofs.«01_k».proof.Proof.KernelIdeal.Regs
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit
public import Idealize.ShloMosaic.Lib.Ring.AtN
public import Idealize.ShloMosaic.Lib.Rounds.Family
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig ℕ (Elt F) ℕ UU ℕ

open Idealize.ShloMosaic.Pipeline (Dat Cfg Seg HostSeg RegionSeg)
open Idealize.ShloMosaic.TalkSites (tallyL credOf addL)

variable (m : (ℓ : Loc nD τ sig) → Buf (Elt F) ℓ) (ρ : Dev nD → PrngReg)

/-! ## Levels -/

theorem lvl_pos (σ : Fin 2) (q : Fin 4) : 0 < lvl σ q := by revert σ q; decide
theorem payC_ok (σ : Fin 2) (q : Fin 4) (b : Fin 2) (c : Dev nD) : (payC σ q b c).1.1.2 = .tc ∧ 0 < (payC σ q b c).2.1 ∧ (payC σ q b c).2.1 < 11 :=
  ⟨rfl, lvl_pos σ q, lvl_lt σ q⟩
theorem payB_ok (d : Fin 2) (c : Dev nD) : (payB d c).1.1.2 = .tc ∧ 0 < (payB d c).2.1 ∧ (payB d c).2.1 < 11 :=
  ⟨rfl, Nat.one_pos, (by decide : 1 < 11)⟩
/-- Every payment is at a TensorCore's cell, at a level between 1 and 10. -/
theorem pays_ok (c : Dev nD) : ∀ x ∈ pays c, x.1.1.2 = .tc ∧ 0 < x.2.1 ∧ x.2.1 < 11 := by
  intro x hx
  simp only [pays, List.mem_cons, List.not_mem_nil, or_false] at hx
  rcases hx with h | h | h | h | h | h | h | h | h | h | h | h | h | h | h | h | h | h <;> subst h <;>
    first | exact payC_ok _ _ _ _ | exact payB_ok _ _

theorem owed_eq (c : Dev nD) (n : ℕ) : owed c n = tallyL ((pays c).take n) := by
  unfold owed; rw [TalkSites.addL_eq, zero_add]
theorem owed_all (c : Dev nD) : owed c 18 = tallyL (pays c) := by rw [owed_eq]; rfl

/-- What is owed lies above level 0. -/
theorem owed_cut (c : Dev nD) (n : ℕ) (g : GSem nD τ sig) (i : ℕ) (h : 0 < owed c n g i) :
    i ∈ SiteBlocks.L (nD := nD) (τ := τ) (sig := sig) 11 g ∧ 0 < SiteBlocks.lv g i := by
  rw [owed_eq] at h
  obtain ⟨x, hx, rfl, rfl⟩ := TalkSites.tallyL_pos h
  obtain ⟨h1, h2, h3⟩ := pays_ok c x (List.mem_of_mem_take hx)
  exact ⟨SiteBlocks.mem_L' h1 h3, h2⟩

/-! ## The calls as regions -/

/-- The calls' proof data. -/
def pdats (p : Fin 2) (c : Dev nD) : Dat τ (Elt F) ℕ ℕ UU ℕ (cfgs p) c :=
  match p with
  | ⟨0, _⟩ => dat0 m c
  | ⟨1, _⟩ => dat1 m c

/-- What the second call's exchange needs from the launch. -/
def dealt (c : Dev nD) : sProp 𝕄 :=
  iprop(fam.launched ER (sched (pv m)) (fun c => {pr 0 c, pr 1 c}) c ∗ cred (tallyL (credOf pays c)))
/-- What the exchange leaves: its barrier past its only round. -/
def spent (c : Dev nD) : sProp 𝕄 := fam.barPos ER (sched (pv m)) c 1 ∅

abbrev U0 : Finset (DevRef τ sig) := Pipeline.ucRefs τ sig \ Pipeline.arrRefs spec0
abbrev U1 : Finset (DevRef τ sig) := Pipeline.ucRefs τ sig \ Pipeline.arrRefs spec1

theorem held_none (c : Dev nD) (W : Valuation τ sig (Elt F)) : (StableHlo.held (c : Thread nD τ) ∅ W : sProp 𝕄) = BI.emp := by
  unfold StableHlo.held; exact BI.bigSep_empty

theorem held_split0 (c : Dev nD) (W : Valuation τ sig (Elt F)) : (StableHlo.held (c : Thread nD τ) (Pipeline.ucRefs τ sig) W : sProp 𝕄)
    = iprop(StableHlo.held (c : Thread nD τ) (Pipeline.arrRefs spec0) W ∗ StableHlo.held (c : Thread nD τ) U0 W) :=
  StableHlo.held_sub_split _ (Pipeline.arrRefs_sub_ucRefs spec0 (by decide)) W
theorem held_split1 (c : Dev nD) (W : Valuation τ sig (Elt F)) : (StableHlo.held (c : Thread nD τ) (Pipeline.ucRefs τ sig) W : sProp 𝕄)
    = iprop(StableHlo.held (c : Thread nD τ) (Pipeline.arrRefs spec1) W ∗ StableHlo.held (c : Thread nD τ) U1 W) :=
  StableHlo.held_sub_split _ (Pipeline.arrRefs_sub_ucRefs spec1 (by decide)) W

theorem mem_arr0 : (Proc.devRef .tc main_v20 : DevRef τ sig) ∈ Pipeline.arrRefs (τ := τ) spec0 :=
  Finset.mem_map.mpr ⟨main_v20, Finset.mem_image.mpr ⟨2, Finset.mem_univ _, rfl⟩, rfl⟩
theorem mem_arr1 : (Proc.devRef .tc main_v21 : DevRef τ sig) ∈ Pipeline.arrRefs (τ := τ) spec1 :=
  Finset.mem_map.mpr ⟨main_v21, Finset.mem_image.mpr ⟨4, Finset.mem_univ _, rfl⟩, rfl⟩

/-- A buffer that is no window's array of the first call keeps its contents over it; -/
theorem rest0 (c : Dev nD) (b : DevRef τ sig) (hb : b ∈ U0 \ ∅) : V2 m (outs m) c b = V1 m c b := by
  have h : b ≠ Proc.devRef .tc main_v20 := fun h => (Finset.mem_sdiff.mp (Finset.mem_sdiff.mp hb).1).2 (h ▸ mem_arr0)
  show Function.update _ _ _ _ = _
  exact Function.update_of_ne h _ _
/-- and of the second, over that. -/
theorem rest1 (c : Dev nD) (b : DevRef τ sig) (hb : b ∈ U1 \ ∅) : V3 m (outs m) c b = V2 m (outs m) c b := by
  have h : b ≠ Proc.devRef .tc main_v21 := fun h => (Finset.mem_sdiff.mp (Finset.mem_sdiff.mp hb).1).2 (h ▸ mem_arr1)
  show Function.update _ _ _ _ = _
  exact Function.update_of_ne h _ _

/-- No semaphore: the first call has none of its own. -/
def noSem : PEmpty → SemLoc sig := fun k => k.elim
theorem ownSems_none (c : Dev nD) : (Pipeline.ownSems0 noSem c : sProp 𝕄) = BI.emp := by
  unfold Pipeline.ownSems0; rw [Finset.univ_eq_empty, BI.bigSep_empty]
theorem share0 (c : Dev nD) (w : Fin cfg0.W) : (dat0 m c).share w = fullShare := by
  unfold Dat.share; exact ite_self _
theorem share1 (c : Dev nD) (w : Fin cfg1.W) : (dat1 m c).share w = fullShare := by
  unfold Dat.share; exact ite_self _

theorem hin0 (c : Dev nD) : iprop(Pipeline.scopedRest spec0 c ∗ (∃ r, prngReg c r) ∗ StableHlo.held (c : Thread nD τ) ∅ (V1 m c) ∗ emp)
    ⊢ (dat0 m c).Φ 0 := by
  show _ ⊢ iprop(Pipeline.scopedRest spec0 c ∗ ∃ r, prngReg c r)
  iintro ⟨H, Hp, -⟩
  isplitl [H] <;> iassumption
theorem hout0 (c : Dev nD) : (dat0 m c).Φ (Fin.last cfg0.N)
    ⊢ iprop(Pipeline.scopedRest spec0 c ∗ (∃ r, prngReg c r) ∗ StableHlo.held (c : Thread nD τ) ∅ (V2 m (outs m) c)
      ∗ Pipeline.ownSems0 noSem c ∗ emp) := by
  show iprop(Pipeline.scopedRest spec0 c ∗ ∃ r, prngReg c r) ⊢ _
  rw [held_none, ownSems_none c]
  iintro ⟨H, Hp⟩
  isplitl [H]; · iexact H
  isplitl [Hp]; · iexact Hp
  isplitr; · iempintro
  isplitr <;> iempintro

theorem hin1 (c : Dev nD) : iprop(Pipeline.scopedRest spec1 c ∗ (∃ r, prngReg c r) ∗ StableHlo.held (c : Thread nD τ) ∅ (V2 m (outs m) c) ∗ Opened (pv m) c)
    ⊢ (dat1 m c).Φ 0 := by
  show _ ⊢ iprop(Pipeline.scopedRest spec1 c ∗ (∃ r, prngReg c r) ∗ Opened (pv m) c)
  rw [held_none]
  iintro ⟨H, Hp, -, Ho⟩
  isplitl [H]; · iexact H
  isplitl [Hp] <;> iassumption
theorem hout1 (c : Dev nD) : (dat1 m c).Φ (Fin.last cfg1.N)
    ⊢ iprop(Pipeline.scopedRest spec1 c ∗ (∃ r, prngReg c r) ∗ StableHlo.held (c : Thread nD τ) ∅ (V3 m (outs m) c)
      ∗ Pipeline.ownSems0 osem c ∗ spent m c) := by
  rw [show Fin.last cfg1.N = (⟨1, by decide⟩ : Fin (cfg1.N + 1)) from by decide]
  show iprop(Pipeline.scopedRest spec1 c ∗ (∃ r, prngReg c r) ∗ Pipeline.ownSems0 osem c ∗ fam.barPos ER (sched (pv m)) c 1 ∅) ⊢ _
  rw [held_none]
  unfold spent
  iintro ⟨H, Hp, Ho, Hb⟩
  isplitl [H]; · iexact H
  isplitl [Hp]; · iexact Hp
  isplitr; · iempintro
  isplitl [Ho] <;> iassumption

theorem due1_cut (c : Dev nD) (n : ℕ) (g : GSem nD τ sig) (i : ℕ) (h : 0 < due1 c n g i) :
    i ∈ SiteBlocks.L (nD := nD) (τ := τ) (sig := sig) 11 g ∧ 0 < SiteBlocks.lv g i := by
  unfold due1 at h
  split at h
  · exact owed_cut c 18 g i h
  · exact absurd h (Nat.lt_irrefl 0)

abbrev Rg (p : Fin 2) := RegionSeg (pcfgs (F := F)) adm (pdats m) (0 : ℕ) defs₀ 𝒱₀ (SiteBlocks.L 11) SiteBlocks.lv p

set_option backward.isDefEq.respectTransparency.types false in
def reg0 : Rg m 0 :=
  RegionSeg.ofTalk (pcfgs (F := F)) adm (pdats m) 0 defs₀ 𝒱₀ (SiteBlocks.L 11) SiteBlocks.lv 0 noSem (Pipeline.OwnSemFacts.none _)
    ∅ U0 (Finset.empty_subset _) launch0.toP rfl (fun c => (body0 m c).loose)
    (fun c => owed c 18) (fun _ => 0) (fun c => (add_zero _).symm) (fun _ => rfl) (fun _ => rfl) (share0 m)
    (V1 m) (V2 m (outs m)) (rest0 m)
    (fun _ => iprop(emp)) (fun _ => iprop(emp)) (fun _ => iprop(emp)) (fun _ => iprop(emp))
    (fun c => by iintro -; imodintro; iempintro) (hin0 m) (hout0 m)
    (fun c => by iintro H; imodintro; iexact H)
    (fun _ => 0)
    ⟨fun c w s => SiteBlocks.mem_L' rfl (by decide), fun _ _ _ => le_refl _, fun c t g i h => owed_cut c 18 g i h⟩
    (dealt m)
    (fun _ _ => rfl) (arrAt0 m)

set_option backward.isDefEq.respectTransparency.types false in
def reg1 : Rg m 1 :=
  RegionSeg.ofTalk (pcfgs (F := F)) adm (pdats m) 0 defs₀ 𝒱₀ (SiteBlocks.L 11) SiteBlocks.lv 1 osem (by decide : Pipeline.OwnSemFacts spec1 osem)
    ∅ U1 (Finset.empty_subset _) launch1.toP rfl (fun c => (body1 m c).loose)
    (fun _ => 0) (fun c => owed c 18) (fun c => (zero_add _).symm) (fun _ => rfl) (fun _ => rfl) (share1 m)
    (V2 m (outs m)) (V3 m (outs m)) (rest1 m)
    (dealt m) (spent m) (Opened (pv m)) (spent m)
    (opened (pv m)) (hin1 m) (hout1 m)
    (fun c => by iintro H; imodintro; iexact H)
    (fun _ => 0)
    ⟨fun c w s => SiteBlocks.mem_L' rfl (by decide), fun _ _ _ => le_refl _, fun c t g i h => due1_cut c t.val g i h⟩
    (fun _ => iprop(emp))
    (fun _ _ => rfl) (arrAt1 m)

/-! ## What rides beside the buffers -/

/-- Before the second call: what its exchange needs and all that is owed; -/
def ride (c : Dev nD) : sProp 𝕄 := iprop((∃ r, prngReg c r) ∗ dealt m c ∗ ∃ W, owes (c : Thread nD τ) (owed c 18) W)
/-- after it: the spent barrier, nothing owed. -/
def rideEnd (c : Dev nD) : sProp 𝕄 := iprop((∃ r, prngReg c r) ∗ spent m c ∗ ∃ W, owes (c : Thread nD τ) (0 : CellTallies nD τ sig ℕ) W)
def rest (i : Fin 3) (c : Dev nD) : sProp 𝕄 :=
  match i with
  | ⟨0, _⟩ => ride m c
  | ⟨1, _⟩ => ride m c
  | ⟨2, _⟩ => rideEnd m c

set_option backward.isDefEq.respectTransparency.types false in
theorem reg0_pre (c : Dev nD) : iprop(StableHlo.held (c : Thread nD τ) (Pipeline.ucRefs τ sig) (V1 m c) ∗ ride m c) ⊢ (reg0 m).pre c := by
  show _ ⊢ iprop(StableHlo.held (c : Thread nD τ) (Pipeline.arrRefs spec0) (V1 m c) ∗ (∃ r, prngReg c r)
    ∗ (StableHlo.held (c : Thread nD τ) U0 (V1 m c) ∗ dealt m c) ∗ emp ∗ ∃ Wd, owes (c : Thread nD τ) (owed c 18 + 0) Wd)
  rw [held_split0, add_zero]
  unfold ride
  iintro ⟨⟨Ha, Hr⟩, Hp, Hd, HO⟩
  isplitl [Ha]; · iexact Ha
  isplitl [Hp]; · iexact Hp
  isplitl [Hr Hd]; · isplitl [Hr] <;> iassumption
  isplitr; · iempintro
  iexact HO
set_option backward.isDefEq.respectTransparency.types false in
theorem reg0_post (c : Dev nD) : (reg0 m).post c ⊢ iprop(StableHlo.held (c : Thread nD τ) (Pipeline.ucRefs τ sig) (V2 m (outs m) c) ∗ ride m c) := by
  show iprop(StableHlo.held (c : Thread nD τ) (Pipeline.arrRefs spec0) (V2 m (outs m) c) ∗ (∃ r, prngReg c r)
    ∗ (StableHlo.held (c : Thread nD τ) U0 (V2 m (outs m) c) ∗ dealt m c) ∗ emp ∗ ∃ Wd, owes (c : Thread nD τ) (owed c 18) Wd) ⊢ _
  rw [held_split0]
  unfold ride
  iintro ⟨Ha, Hp, ⟨Hr, Hd⟩, -, HO⟩
  isplitl [Ha Hr]; · isplitl [Ha] <;> iassumption
  isplitl [Hp]; · iexact Hp
  isplitl [Hd] <;> iassumption
set_option backward.isDefEq.respectTransparency.types false in
theorem reg1_pre (c : Dev nD) : iprop(StableHlo.held (c : Thread nD τ) (Pipeline.ucRefs τ sig) (V2 m (outs m) c) ∗ ride m c) ⊢ (reg1 m).pre c := by
  show _ ⊢ iprop(StableHlo.held (c : Thread nD τ) (Pipeline.arrRefs spec1) (V2 m (outs m) c) ∗ (∃ r, prngReg c r)
    ∗ (StableHlo.held (c : Thread nD τ) U1 (V2 m (outs m) c) ∗ emp) ∗ dealt m c ∗ ∃ Wd, owes (c : Thread nD τ) (0 + owed c 18) Wd)
  rw [held_split1, zero_add]
  unfold ride
  iintro ⟨⟨Ha, Hr⟩, Hp, Hd, HO⟩
  isplitl [Ha]; · iexact Ha
  isplitl [Hp]; · iexact Hp
  isplitl [Hr]
  · isplitl [Hr]; · iexact Hr
    iempintro
  isplitl [Hd] <;> iassumption
set_option backward.isDefEq.respectTransparency.types false in
theorem reg1_post (c : Dev nD) : (reg1 m).post c ⊢ iprop(StableHlo.held (c : Thread nD τ) (Pipeline.ucRefs τ sig) (V3 m (outs m) c) ∗ rideEnd m c) := by
  show iprop(StableHlo.held (c : Thread nD τ) (Pipeline.arrRefs spec1) (V3 m (outs m) c) ∗ (∃ r, prngReg c r)
    ∗ (StableHlo.held (c : Thread nD τ) U1 (V3 m (outs m) c) ∗ emp) ∗ spent m c ∗ ∃ Wd, owes (c : Thread nD τ) (0 : CellTallies nD τ sig ℕ) Wd) ⊢ _
  rw [held_split1]
  unfold rideEnd
  iintro ⟨Ha, Hp, ⟨Hr, -⟩, Hs, HO⟩
  isplitl [Ha Hr]; · isplitl [Ha] <;> iassumption
  isplitl [Hp]; · iexact Hp
  isplitl [Hs] <;> iassumption

/-! ## The launch -/

/-- The ghost state of the exchange, on device 0. -/
def ghost (c : Dev nD) : sProp 𝕄 := SiteBlocks.onDev 0 (BI.own (ER (F := F) (Rounds.launchOf fam.S fam.Sd fam.T))) c
def u₀ : UU := (initOf (Pipeline.cells cfgs cellOf_inj) (Pipeline.launchToks cfgs cellOf_inj), Rounds.launchOf fam.S fam.Sd fam.T)

theorem launch_split : (ownU u₀ : sProp 𝕄)
    ⊢ |={Set.univ}=> iprop(BI.own (EP (initOf (Pipeline.cells cfgs cellOf_inj) (Pipeline.launchToks cfgs cellOf_inj))) ∗ bigSep Finset.univ ghost) := by
  unfold u₀ ghost
  rw [SiteBlocks.bigSep_onDev]
  iintro Hu
  ihave H := (ownU_pair _ _) $$ Hu
  icases H with ⟨HP, HX⟩
  imodintro
  isplitl [HP]; · iexact HP
  iexact HX

/-- The only counter of a TensorCore outside the calls is the barrier's. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem owed_cred (c : Dev nD) : (Pipeline.launchCred (fun d => owed d 18) c : sProp 𝕄) = cred (tallyL (credOf pays c)) := by
  rw [show (fun d : Dev nD => owed d 18) = fun d => tallyL (pays d) from funext owed_all]
  exact TalkSites.launchCred_tallyL pays (fun c x hx => (pays_ok c x hx).1) c

theorem zero_cred (c : Dev nD) : (Pipeline.launchCred (fun d => owed d 18) c : sProp 𝕄)
    ⊢ iprop(Pipeline.launchCred (fun d => owed d 18) c ∗ Pipeline.launchCred (fun _ => 0) c) := by
  have h := Pipeline.launchCred_add (Val := Elt F) (Name := ℕ) (U := UU) (Lvl := ℕ) (fun d : Dev nD => owed d 18) (fun _ => 0) c
  rw [← h]
  simp only [add_zero]
  exact .rfl

/-- The launch: every device's buffers, counter, credit and dues, with the ghost state, fund the first thread states. -/
theorem launch : iprop((bigSep Finset.univ fun c : Dev nD => iprop(unscopedBufs c (fun b => m ((c : Thread nD τ).loc b)) ∗ unscopedSems0 c
        ∗ owes (c : Thread nD τ) (owed c 18) ∅ ∗ Pipeline.launchCred (fun d => owed d 18) c ∗ prngReg c (ρ c) ∗ ghost c)) ∗ levAts (SiteBlocks.L 11) SiteBlocks.lv)
      ⊢ (|={Set.univ}=> bigSep Finset.univ fun c : Dev nD =>
        iprop(StableHlo.held (c : Thread nD τ) (Pipeline.ucRefs τ sig) (V0 m c) ∗ rest m 0 c) : sProp 𝕄) := by
  have h1 (c : Dev nD) : iprop(unscopedBufs c (fun b => m ((c : Thread nD τ).loc b)) ∗ unscopedSems0 c
        ∗ owes (c : Thread nD τ) (owed c 18) ∅ ∗ Pipeline.launchCred (fun d => owed d 18) c ∗ prngReg c (ρ c) ∗ ghost c)
      ⊢ (iprop(((semVal (barCell c) 0 ∗ Pipeline.launchCred (fun _ => 0) c) ∗ ghost c)
          ∗ (StableHlo.held (c : Thread nD τ) (Pipeline.ucRefs τ sig) (V0 m c)
            ∗ owes (c : Thread nD τ) (owed c 18) ∅ ∗ cred (tallyL (credOf pays c)) ∗ prngReg c (ρ c))) : sProp 𝕄) := by
    rw [unscoped_bar, ← Pipeline.unscopedBufs_held (Ix := ℕ) (Name := ℕ) (U := UU) (Lvl := ℕ) c (V0 m c), ← owed_cred]
    iintro ⟨Hb, Hs, HO, Hc, Hp, Hg⟩
    ihave ⟨Hc, Hz⟩ := (zero_cred c) $$ Hc
    isplitl [Hs Hz Hg]
    · isplitl [Hs Hz]; · isplitl [Hs] <;> iassumption
      iexact Hg
    isplitl [Hb]; · iexact Hb
    isplitl [HO]; · iexact HO
    isplitl [Hc] <;> iassumption
  have h2 (c : Dev nD) : iprop(fam.launched ER (sched (pv m)) (fun c => {pr 0 c, pr 1 c}) c
        ∗ (StableHlo.held (c : Thread nD τ) (Pipeline.ucRefs τ sig) (V0 m c)
            ∗ owes (c : Thread nD τ) (owed c 18) ∅ ∗ cred (tallyL (credOf pays c)) ∗ prngReg c (ρ c)))
      ⊢ (iprop(StableHlo.held (c : Thread nD τ) (Pipeline.ucRefs τ sig) (V0 m c) ∗ rest m 0 c) : sProp 𝕄) := by
    show _ ⊢ iprop(StableHlo.held (c : Thread nD τ) (Pipeline.ucRefs τ sig) (V0 m c) ∗ ride m c)
    unfold ride dealt
    iintro ⟨Hl, Hb, HO, Hc, Hp⟩
    isplitl [Hb]; · iexact Hb
    isplitl [Hp]; · iexists _; iexact Hp
    isplitl [Hl Hc]; · isplitl [Hl] <;> iassumption
    iexists _; iexact HO
  have hf := fam.funds (Val := Elt F) (U := UU) ER (sched (pv m)) (fun _ _ h => h) (fun c => {pr 0 c, pr 1 c}) (Es := Set.univ)
  iintro ⟨H, -⟩
  ihave H := (show _ ⊢ iprop((bigSep Finset.univ fun c : Dev nD => iprop((semVal (barCell c) 0 ∗ Pipeline.launchCred (fun _ => 0) c) ∗ ghost c))
        ∗ bigSep Finset.univ fun c : Dev nD => iprop(StableHlo.held (c : Thread nD τ) (Pipeline.ucRefs τ sig) (V0 m c)
            ∗ owes (c : Thread nD τ) (owed c 18) ∅ ∗ cred (tallyL (credOf pays c)) ∗ prngReg c (ρ c)))
      from by rw [← bigSep_sep']; exact bigSep_mono fun c _ => h1 c) $$ H
  icases H with ⟨Hs, Hb⟩
  ihave Hs := (show _ ⊢ iprop((bigSep Finset.univ fun c : Dev nD => iprop(semVal (barCell c) 0 ∗ Pipeline.launchCred (fun _ => 0) c)) ∗ bigSep Finset.univ ghost)
      from by rw [← bigSep_sep']) $$ Hs
  icases Hs with ⟨Hs, Hg⟩
  imod hf $$ [Hs Hg] with HE
  · isplitl [Hs]; · iexact Hs
    ihave Hg := (show bigSep Finset.univ ghost ⊢ (BI.own (ER (F := F) (Rounds.launchOf fam.S fam.Sd fam.T)) : sProp 𝕄) from by
      unfold ghost; rw [SiteBlocks.bigSep_onDev]) $$ Hg
    iexact Hg
  imodintro
  iapply (show iprop((bigSep Finset.univ (fam.launched ER (sched (pv m)) (fun c => {pr 0 c, pr 1 c})))
      ∗ bigSep Finset.univ fun c : Dev nD => iprop(StableHlo.held (c : Thread nD τ) (Pipeline.ucRefs τ sig) (V0 m c)
            ∗ owes (c : Thread nD τ) (owed c 18) ∅ ∗ cred (tallyL (credOf pays c)) ∗ prngReg c (ρ c)))
      ⊢ bigSep Finset.univ fun c : Dev nD => iprop(StableHlo.held (c : Thread nD τ) (Pipeline.ucRefs τ sig) (V0 m c) ∗ rest m 0 c)
      from by rw [← bigSep_sep']; exact bigSep_mono fun c _ => h2 c)
  isplitl [HE] <;> iassumption

/-! ## The run -/

/-- What a device's memory ends with: its arguments as launched, its result at the last valuation. -/
def Ends (c : Dev nD) (s : MemSt nD τ sig (Elt F)) : Prop :=
  ∀ (b : Ref sig .tc), (Proc.devRef .tc b : DevRef τ sig) ∈ Pipeline.ucRefs τ sig →
    s.mem ((c : Thread nD τ).loc b) = V4 m (outs m) c (Proc.devRef .tc b)

set_option backward.isDefEq.respectTransparency.types false in
set_option maxRecDepth 4096 in
/-- Every weakly fair execution from zero counters ends, with every buffer at the last valuation and every counter at zero. -/
theorem run_main : θ_run defs (onTc (τ := τ) (main (F := F))) ⟨m, fun _ => 0, ρ⟩ (fun r => (∀ c, Ends m c r.2) ∧ r.2.sem = fun _ => 0) := by
  refine Pipeline.θ_run_regions_kit_dev_sems (pcfgs (F := F)) adm (pdats m) 0 cellOf_inj EP defs₀ 𝒱₀ (SiteBlocks.L 11) SiteBlocks.lv m ρ main
    (segs m (outs m) 𝒱₀ (SiteBlocks.L 11) SiteBlocks.lv (rest m) 0 (pdats m) (reg0 m) (reg1 m))
    (fun c Q => by
      rewrite [main_chain c, Seg.run_eq_chain,
        show (segs m (outs m) 𝒱₀ (SiteBlocks.L 11) SiteBlocks.lv (rest m) 0 (pdats m) (reg0 m) (reg1 m) c).map Seg.prog = [
          StableHlo.seq (hostOps0 c),
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun c => owed c 18) (SiteBlocks.hL 11) ghost u₀ launch_split
    (T₀ := fun c => iprop(StableHlo.held (c : Thread nD τ) (Pipeline.ucRefs τ sig) (V0 m c) ∗ rest m 0 c))
    (Tₙ := fun c => iprop(StableHlo.held (c : Thread nD τ) (Pipeline.ucRefs τ sig) (V4 m (outs m) c) ∗ spent m c))
    (hch := fun c => ⟨.rfl, reg0_pre m c, (reg0_post m c).trans (reg1_pre m c), reg1_post m c, ?_⟩)
    (hinit := launch m ρ)
    (QY := fun c s => Ends m c s ∧ ∀ sm : SemLoc sig, sm.isScoped .tc = false → s.sem ((c.tc : Thread nD τ), sm) = 0)
    (hfin := fun c s' => ?_)
    (hQ := fun s h hs => ⟨fun c => (h c).1, sem_eq_zero hs fun c => (h c).2⟩)
  · show iprop(StableHlo.held (c : Thread nD τ) (Pipeline.ucRefs τ sig) (V4 m (outs m) c) ∗ rideEnd m c) ⊢ _
    unfold rideEnd
    iintro ⟨Hh, -, Hs, HO⟩
    isplitl [Hh Hs]; · isplitl [Hh] <;> iassumption
    iexact HO
  · unfold StableHlo.held spent
    iintro ⟨⟨Hh, Hs⟩, HSI⟩
    ihave %h := (SI_pointsTo_bufs_agree (qs := fun _ => fullShare) (Pipeline.ucRefs τ sig)) $$ [HSI Hh]
    · isplitl [HSI]; · iexact HSI
      iexact Hh
    imod (fam.barPos_read ER (sched (pv m)) c (r := 1) (duties_later (pv m) _ 1 le_rfl) ∅ s') $$ [Hs HSI] with ⟨%hz, HSI⟩
    · isplitl [Hs] <;> iassumption
    imodintro
    isplitr
    · ipureintro
      refine ⟨fun b hb => h _ hb, fun sm hsm => ?_⟩
      have e : sm = .reg barS := by revert sm; decide
      rw [e]; exact hz
    iexact HSI
end Cert.KernelIdeal.Talk

end
-- ==== Proof.KernelIdeal.Elem.lean ====
/-
The kernel's vector values read at an index, at the extended reals: the scores, the mask, a block's step, a head's
context, the projections and the last addition, each as a sum of products.
-/
module

public import proofs.«01_k».proof.Proof.KernelIdeal.Regs
public import Idealize.ShloMosaic.Lib.MatmulPlain
public import Idealize.ShloMosaic.Lib.ValueIdx
public import Idealize.ShloMosaic.PureOps.Ideal.Laws

@[expose] public section

noncomputable section

namespace Cert.KernelIdeal.Talk

open Idealize.ShloMosaic Idealize.ShloMosaic.TcCoe
open Cert.KernelIdeal Cert.KernelIdeal.Gen

/-- The plain product into zeros, at an element. -/
theorem plain_at {M K N : Nat} (l : FVec Ideal ⟨2, ![M, K]⟩ .bf16) (w : FVec Ideal ⟨2, ![K, N]⟩ .bf16) (r : Fin M) (c : Fin N) :
    FloatOps.matmul (DotDims.plain M K N) none l w (constant ⟨2, ![M, N]⟩ .f32 0x00000000#32 : FVec Ideal ⟨2, ![M, N]⟩ .f32) (ix2 r c)
      = ∑ k : Fin K, (l (ix2 r k) * w (ix2 k c) : EReal) :=
  (Ideal.matmul_plain_apply none l w _ r c).trans (by
    have z : (constant ⟨2, ![M, N]⟩ .f32 0x00000000#32 : FVec Ideal ⟨2, ![M, N]⟩ .f32) (ix2 r c) = 0 := Ideal.ofBits_zero_f32
    exact (congrArg (· + _) z).trans (zero_add _))

/-- The product with a transposed right operand into zeros, at an element. -/
theorem transposed_at {M K N : Nat} (l : FVec Ideal ⟨2, ![M, K]⟩ .bf16) (w : FVec Ideal ⟨2, ![N, K]⟩ .bf16) (r : Fin M) (c : Fin N) :
    FloatOps.matmul (DotDims.transposedRhs M K N) none l w (constant ⟨2, ![M, N]⟩ .f32 0x00000000#32 : FVec Ideal ⟨2, ![M, N]⟩ .f32) (ix2 r c)
      = ∑ k : Fin K, (l (ix2 r k) * w (ix2 c k) : EReal) :=
  (Ideal.matmul_transposedRhs_apply none l w _ r c).trans (by
    have z : (constant ⟨2, ![M, N]⟩ .f32 0x00000000#32 : FVec Ideal ⟨2, ![M, N]⟩ .f32) (ix2 r c) = 0 := Ideal.ofBits_zero_f32
    exact (congrArg (· + _) z).trans (zero_add _))

/-- An index of two coordinates is determined by their values. -/
theorem idx2_ext {n0 n1 : Nat} {i j : (⟨2, ![n0, n1]⟩ : Shape).Idx} (h0 : (i 0).val = (j 0).val) (h1 : (i 1).val = (j 1).val) : i = j :=
  funext fun a => Fin.ext (match a with | ⟨0, _⟩ => h0 | ⟨1, _⟩ => h1)
/-- An index of three coordinates is determined by their values. -/
theorem idx3_ext {n0 n1 n2 : Nat} {i j : (⟨3, ![n0, n1, n2]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

/-- A block of keys or values without its unit axis. -/
theorem cast_kv (x : Vec Ideal S1x512x128 .bf16) (r : Fin 512) (d : Fin 128) :
    (shapeCast S512x128 x shapeCasts_S1x512x128_S512x128 : FVec Ideal S512x128 .bf16) (ix2 r d) = x (ix3 0 r d) :=
  shapeCast_apply x _ _ _ (by
    rewrite [Shape.rowMajor_val_three, Shape.rowMajor_val_two]
    show (0 * 512 + r.val) * 128 + d.val = r.val * 128 + d.val
    omega)
/-- A slot without its two unit axes. -/
theorem cast_slot (x : Vec Ideal S1x1x256x1024 .bf16) (r : Fin 256) (d : Fin 1024) :
    (shapeCast S256x1024 x shapeCasts_S1x1x256x1024_S256x1024 : FVec Ideal S256x1024 .bf16) (ix2 r d) = x (ix4 0 0 r d) :=
  shapeCast_apply x _ _ _ (by
    rewrite [Shape.rowMajor_val_four, Shape.rowMajor_val_two]
    show ((0 * 1 + 0) * 256 + r.val) * 1024 + d.val = r.val * 1024 + d.val
    omega)

/-- A score is the query's and the key's dot product. -/
theorem scores_apply (xq : Vec Ideal S512x128 .bf16) (xk : Vec Ideal S1x512x128 .bf16) (r k : Fin 512) :
    scores xq xk (ix2 r k) = ∑ d : Fin 128, (xq (ix2 r d) * xk (ix3 0 k d) : EReal) := by
  unfold scores
  rw [shapeCast_self]
  exact (transposed_at (M := 512) (K := 128) (N := 512) xq (shapeCast S512x128 xk shapeCasts_S1x512x128_S512x128) r k).trans
    (Finset.sum_congr rfl fun d _ => congrArg (xq (ix2 r d) * ·) (cast_kv xk k d))

/-- A step adds the row's weights to the running sum. -/
theorem step_fst (a : Acc Ideal) (w : FVec Ideal S512x512 .f32) (xv : Vec Ideal S1x512x128 .bf16) (r : Fin 512) :
    (step a w xv).1 (ix2 r 0) = a.1 (ix2 r 0) + ∑ k : Fin 512, (w (ix2 r k) : EReal) := by
  unfold step
  show a.1 (ix2 r 0) + shapeCast S512x1 _ _ _ = _
  rw [shapeCast_apply _ shapeCasts_S512_S512x1 (ix2 r 0) (ix1 r) (by
    rewrite [Shape.rowMajor_val_one, Shape.rowMajor_val_two]
    show r.val = r.val * 1 + 0
    omega)]
  exact congrArg (a.1 (ix2 r 0) + ·) ((Ideal.multiReduction_add_single w (0x00000000#32) reduces_S512x512_S512 (by decide) rfl (ix1 r)).trans
    (Finset.sum_congr rfl fun k _ => congrArg w (idx2_ext rfl rfl)))

/-- A step adds the weighted values to the running context. -/
theorem step_snd (a : Acc Ideal) (w : FVec Ideal S512x512 .f32) (xv : Vec Ideal S1x512x128 .bf16) (r : Fin 512) (d : Fin 128) :
    (step a w xv).2 (ix2 r d) = a.2 (ix2 r d) + ∑ k : Fin 512, (w (ix2 r k) * xv (ix3 0 k d) : EReal) := by
  unfold step
  exact congrArg (a.2 (ix2 r d) + ·) ((plain_at (M := 512) (K := 512) (N := 128) w (shapeCast S512x128 xv shapeCasts_S1x512x128_S512x128) r d).trans
    (Finset.sum_congr rfl fun k _ => congrArg (w (ix2 r k) * ·) (cast_kv xv k d)))

/-- A head's context is the running context over the running sum. -/
theorem headOut_apply (a : Acc Ideal) (r : Fin 512) (d : Fin 128) :
    headOut a (ix2 r d) = Ideal.div (a.2 (ix2 r d)) (a.1 (ix2 r 0)) := by
  unfold headOut
  rw [shapeCast_self]
  show Ideal.div (a.2 (ix2 r d)) (broadcastTo S512x128 a.1 _ (ix2 r d)) = _
  rw [broadcastTo_apply a.1 broadcasts_S512x1_S512x128 (ix2 r d) (ix2 r 0) (fun b => match b with
    | ⟨0, _⟩ => by show r.val = if (512 : Nat) = 1 then 0 else r.val; rw [if_neg (by decide)]
    | ⟨1, _⟩ => by show (0 : Nat) = if (1 : Nat) = 1 then 0 else d.val; rw [if_pos rfl])]

/-- A block's product is the dot product of its context's row and the weights' column. -/
theorem prod_apply (xc : Vec Ideal S512x1024 .bf16) (xw : Vec Ideal S1024x1024 .bf16) (r : Fin 512) (n : Fin 1024) :
    prod xc xw (ix2 r n) = ∑ k : Fin 1024, (xc (ix2 r k) * xw (ix2 k n) : EReal) := by
  unfold prod
  rw [shapeCast_self, shapeCast_self]
  exact plain_at (M := 512) (K := 1024) (N := 1024) xc xw r n

/-- The scale of the queries, as the program writes it. -/
abbrev scale : EReal := Ideal.ofBits .f32 0x3DB504F3#32

/-- A query is the scaled dot product of the row and the weights' column. -/
theorem proj_apply (x : Vec Ideal S2048x1024 .bf16) (w : Vec Ideal S1024x1024 .bf16) (i : Fin 2048) (n : Fin 1024) :
    k0_pay1 x w (ix2 i n) = (∑ k : Fin 1024, (x (ix2 i k) * w (ix2 k n) : EReal)) * scale := by
  unfold k0_pay1
  simp only [shapeCast_self]
  exact congrArg (· * scale) (plain_at (M := 2048) (K := 1024) (N := 1024) x w i n)

/-- The last addition, at an element. -/
theorem addOut_apply (s r : Vec Ideal S1x1x256x1024 .bf16) (a : Fin 256) (n : Fin 1024) :
    addOut s r (ix2 a n) = (s (ix4 0 0 a n) + r (ix4 0 0 a n) : EReal) := by
  unfold addOut
  exact congrArg₂ (· + ·) (cast_slot s a n) (cast_slot r a n)

end Cert.KernelIdeal.Talk

end
-- ==== Proof.KernelIdeal.Mask.lean ====
/-
The mask of the diagonal key block, read at an index: a key is kept iff its block of 64 is not past the query's.
-/
module

public import proofs.«01_k».proof.Proof.KernelIdeal.Regs
public import Idealize.ShloMosaic.PureOps.Ideal.Laws

@[expose] public section

noncomputable section

namespace Cert.KernelIdeal.Talk

open Idealize.ShloMosaic Idealize.ShloMosaic.TcCoe
open Cert.KernelIdeal Cert.KernelIdeal.Gen

/-- Floor division by 64 as the program spells it, of the word `a`. -/
def div64 (a : BitVec 32) : BitVec 32 :=
  Scalar.select
    (IntOp.andi
      (IntOp.cmpi .ne (IntOp.subi ((IntOp.cmpi .sgt a 0#32).setWidth 32) ((IntOp.cmpi .slt a 0#32).setWidth 32))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

set_option maxRecDepth 100000 in
/-- Of a row or column of the block it is the quotient. -/
theorem div64_ofNat (a : Fin 512) : div64 (BitVec.ofNat 32 a.val) = BitVec.ofNat 32 (a.val / 64) := by
  revert a; decide +kernel

/-- The mask's condition. -/
theorem le64 (a b : Fin 8) : IntOp.cmpi .sle (BitVec.ofNat 32 a.val) (BitVec.ofNat 32 b.val) = if a.val ≤ b.val then 1#1 else 0#1 := by
  revert a b; decide +kernel

/-- The diagonal block's weights: the exponential where the key's block of 64 is not past the query's, else zero. -/
theorem diagW_apply (s : FVec Ideal S512x512 .f32) (r k : Fin 512) :
    diagW s (ix2 r k) = if k.val / 64 ≤ r.val / 64 then Ideal.exp (s (ix2 r k)) else 0 := by
  have e : diagW s (ix2 r k) = Scalar.select (IntOp.cmpi .sle (div64 (BitVec.ofNat 32 k.val)) (div64 (BitVec.ofNat 32 r.val)))
      (Ideal.exp (s (ix2 r k))) (Ideal.ofBits .f32 0x00000000#32) := by
    have hr : iota .tc S512x512 32 [0] iota_S512x512_d0_w32 (ix2 r k) = BitVec.ofNat 32 r.val := by
      show BitVec.ofNat 32 (0 * 512 + r.val) = _
      rw [Nat.zero_mul, Nat.zero_add]
    have hk : iota .tc S512x512 32 [1] iota_S512x512_d1_w32 (ix2 r k) = BitVec.ofNat 32 k.val := by
      show BitVec.ofNat 32 (0 * 512 + k.val) = _
      rw [Nat.zero_mul, Nat.zero_add]
    rw [← hr, ← hk]; rfl
  rw [e, div64_ofNat, div64_ofNat, le64 ⟨k.val / 64, by omega⟩ ⟨r.val / 64, by omega⟩, Ideal.ofBits_zero_f32]
  unfold Scalar.select
  by_cases h : k.val / 64 ≤ r.val / 64
  · simp [h]
  · simp [h]

end Cert.KernelIdeal.Talk

end
-- ==== Proof.Soft.lean ====
/-
Attention over the extended reals: a row's softmax with the maximum taken off first, and the same row without it.
-/
module

public import Idealize.ShloMosaic.PureOps.Ideal.Laws
public import Idealize.ShloMosaic.Lib.IdealHost

@[expose] public section

noncomputable section

namespace Cert.Soft

open Idealize.ShloMosaic

/-- A key's weight in row `i`: the exponential of its score if its block of 64 is not past the row's, else zero. -/
def wt (i : ℕ) (sc : Fin 2048 → EReal) (j : Fin 2048) : EReal := if j.val / 64 ≤ i / 64 then Ideal.exp (sc j) else 0
/-- A row's attention: the weighted values over the weights. -/
def attn (i : ℕ) (sc v : Fin 2048 → EReal) : EReal := Ideal.div (∑ j, wt i sc j * v j) (∑ j, wt i sc j)
/-- A row's scores, masked. -/
def masked (i : ℕ) (sc : Fin 2048 → EReal) (j : Fin 2048) : EReal := if j.val / 64 ≤ i / 64 then sc j else ⊥

/-- A sum of reals is real. -/
theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A nonnegative real distributes over a sum. -/
theorem sum_mul {ι : Type} (t : Finset ι) (f : ι → EReal) (c : ℝ) (hc : 0 ≤ c) : (∑ j ∈ t, f j) * (c : EReal) = ∑ j ∈ t, f j * c := by
  classical
  induction t using Finset.induction_on with
  | empty => simp
  | insert a t ha ih =>
    rw [Finset.sum_insert ha, Finset.sum_insert ha, EReal.right_distrib_of_nonneg_of_ne_top (by exact_mod_cast hc) (EReal.coe_ne_top c), ih]

variable (i : ℕ) (s : Fin 2048 → ℝ)

/-- The weights, as reals. -/
def rwt (j : Fin 2048) : ℝ := if j.val / 64 ≤ i / 64 then Real.exp (s j) else 0

theorem rwt_nonneg (j : Fin 2048) : 0 ≤ rwt i s j := by
  unfold rwt; split
  · exact (Real.exp_pos _).le
  · exact le_rfl

theorem rwt_sum_pos : 0 < ∑ j, rwt i s j := by
  refine Finset.sum_pos' (fun j _ => rwt_nonneg i s j) ⟨0, Finset.mem_univ _, ?_⟩
  have h : ((0 : Fin 2048).val / 64 ≤ i / 64) := by show 0 / 64 ≤ i / 64; omega
  unfold rwt; rw [if_pos h]
  exact Real.exp_pos _

theorem wt_coe (j : Fin 2048) : wt i (fun j => (s j : EReal)) j = (rwt i s j : EReal) := by
  unfold wt rwt; split <;> simp

/-- The largest masked score is real. -/
theorem max_real : ∃ m : ℝ, Finset.univ.fold max ⊥ (masked i fun j => (s j : EReal)) = (m : EReal) := by
  have ht : Finset.univ.fold max ⊥ (masked i fun j => (s j : EReal)) < ⊤ := by
    rw [Finset.fold_max_lt]
    refine ⟨bot_lt_top, fun j _ => ?_⟩
    unfold masked; split
    · exact EReal.coe_lt_top _
    · exact bot_lt_top
  have hb : ⊥ < Finset.univ.fold max ⊥ (masked i fun j => (s j : EReal)) := by
    rw [Finset.lt_fold_max]
    refine .inr ⟨0, Finset.mem_univ _, ?_⟩
    have h : ((0 : Fin 2048).val / 64 ≤ i / 64) := by show 0 / 64 ≤ i / 64; omega
    unfold masked; rw [if_pos h]
    exact EReal.bot_lt_coe _
  exact ⟨_, (EReal.coe_toReal ht.ne hb.ne').symm⟩

/-- A masked score's exponential with a real taken off. -/
theorem exp_masked (m : ℝ) (j : Fin 2048) :
    Ideal.exp (masked i (fun j => (s j : EReal)) j - (m : EReal)) = ((rwt i s j * Real.exp (-m) : ℝ) : EReal) := by
  unfold masked rwt; split
  · rw [← EReal.coe_sub, Ideal.exp_coe, sub_eq_add_neg, Real.exp_add]
  · rw [EReal.bot_sub]; simp

/-- The softmax of a row of real scores is its attention. -/
theorem softmax_eq (v : Fin 2048 → EReal) (M : EReal) (hM : M = Finset.univ.fold max ⊥ (masked i fun j => (s j : EReal))) :
    ∑ j, v j * Ideal.div (Ideal.exp (masked i (fun j => (s j : EReal)) j - M)) (∑ k, Ideal.exp (masked i (fun j => (s j : EReal)) k - M))
      = attn i (fun j => (s j : EReal)) v := by
  obtain ⟨m, hm⟩ := max_real i s
  rw [hM, hm]
  have hL := rwt_sum_pos i s
  have he := Real.exp_pos (-m)
  have hden : ∑ k, Ideal.exp (masked i (fun j => (s j : EReal)) k - (m : EReal)) = (((∑ k, rwt i s k) * Real.exp (-m) : ℝ) : EReal) := by
    rw [Finset.sum_mul, coe_sum]
    exact Finset.sum_congr rfl fun k _ => exp_masked i s m k
  rw [hden]
  unfold attn
  have hd2 : ∑ j, wt i (fun j => (s j : EReal)) j = ((∑ k, rwt i s k : ℝ) : EReal) := by
    rw [coe_sum]; exact Finset.sum_congr rfl fun k _ => wt_coe i s k
  rw [hd2, Ideal.div_coe hL.ne', sum_mul _ _ _ (by positivity)]
  refine Finset.sum_congr rfl fun j _ => ?_
  rw [exp_masked, Ideal.div_coe (mul_pos hL he).ne', wt_coe, ← EReal.coe_mul]
  have hr : rwt i s j * Real.exp (-m) * (1 / ((∑ k, rwt i s k) * Real.exp (-m))) = rwt i s j * (1 / ∑ k, rwt i s k) := by
    field_simp
  rw [hr, EReal.coe_mul, ← mul_assoc, mul_comm (v j)]

/-- A sum over the keys, by blocks of 512. -/
theorem sum_keys {M : Type} [AddCommMonoid M] (f : Fin 2048 → M) :
    ∑ j, f j = ∑ b : Fin 4, ∑ k : Fin 512, f ⟨512 * b.val + k.val, by omega⟩ := by
  rw [← Fintype.sum_prod_type']
  refine (Fintype.sum_equiv (finProdFinEquiv (m := 4) (n := 512)) _ _ fun x => ?_).symm
  exact congrArg f (Fin.ext (by simp [finProdFinEquiv]; omega))

/-- A sum over all columns, by devices. -/
theorem sum_cols {M : Type} [AddCommMonoid M] (f : Fin 4096 → M) :
    ∑ j, f j = ∑ c : Fin 4, ∑ k : Fin 1024, f ⟨1024 * c.val + k.val, by omega⟩ := by
  rw [← Fintype.sum_prod_type']
  refine (Fintype.sum_equiv (finProdFinEquiv (m := 4) (n := 1024)) _ _ fun x => ?_).symm
  exact congrArg f (Fin.ext (by simp [finProdFinEquiv]; omega))

end Cert.Soft

end
-- ==== Proof.KernelIdeal.Heads.lean ====
/-
The kernel's context, partial product and result read at an element: a head's running sums over the key blocks are the
row's attention over all keys, and the result is the sum of the four devices' partial products.
-/
module

public import proofs.«01_k».proof.Proof.KernelIdeal.Elem
public import proofs.«01_k».proof.Proof.KernelIdeal.Mask
public import proofs.«01_k».proof.Proof.Soft

@[expose] public section

noncomputable section

namespace Cert.KernelIdeal.Talk

open Idealize.ShloMosaic Idealize.ShloMosaic.TcCoe
open Cert.KernelIdeal Cert.KernelIdeal.Gen
open Cert.Soft

theorem getQ_at (q : Fin 4) (h : Fin 8) (aq : Vec Ideal S2048x1024 .bf16) (r : Fin 512) (d : Fin 128) :
    getQ q h aq (ix2 r d) = aq (ix2 ⟨512 * q.val + r.val, by omega⟩ ⟨128 * h.val + d.val, by omega⟩) :=
  congrArg aq (idx2_ext (by show 512 * q.val + 1 * r.val = _; rw [Nat.one_mul]; rfl) (by show 128 * h.val + 1 * d.val = _; rw [Nat.one_mul]; rfl))
theorem getKV_at (h : Fin 8) (j : Fin 4) (ak : Vec Ideal S8x2048x128 .bf16) (k : Fin 512) (d : Fin 128) :
    getKV h j ak (ix3 0 k d) = ak (ix3 h ⟨512 * j.val + k.val, by omega⟩ d) :=
  congrArg ak (idx3_ext (by show h.val + 1 * 0 = _; rfl) (by show 512 * j.val + 1 * k.val = _; rw [Nat.one_mul]; rfl)
    (by show 0 + 1 * d.val = _; rw [Nat.one_mul, Nat.zero_add]; rfl))
theorem getS_at (q : Fin 4) (b : Fin 2) (f : Vec Ideal S4x2x256x1024 .bf16) (a : Fin 256) (n : Fin 1024) :
    getS q b f (ix4 0 0 a n) = f (ix4 q b a n) :=
  congrArg f (funext fun x => Fin.ext (match x with
    | ⟨0, _⟩ => by show q.val + 1 * 0 = _; rfl
    | ⟨1, _⟩ => by show b.val + 1 * 0 = _; rfl
    | ⟨2, _⟩ => by show 0 + 1 * a.val = _; rw [Nat.one_mul, Nat.zero_add]; rfl
    | ⟨3, _⟩ => by show 0 + 1 * n.val = _; rw [Nat.one_mul, Nat.zero_add]; rfl))

section

variable (ak av : Vec Ideal S8x2048x128 .bf16) (h : Fin 8) (xq : Vec Ideal S512x128 .bf16)

/-- A row's scores against all keys. -/
def scoreOf (r : Fin 512) (j : Fin 2048) : EReal := ∑ d : Fin 128, (xq (ix2 r d) * ak (ix3 h j d) : EReal)

theorem scores_at (j : Fin 4) (r k : Fin 512) :
    scores xq (getKV h j ak) (ix2 r k) = scoreOf ak h xq r ⟨512 * j.val + k.val, by omega⟩ := by
  rw [scores_apply]
  exact Finset.sum_congr rfl fun d _ => congrArg (xq (ix2 r d) * ·) (getKV_at h j ak k d)

/-- The weights of a block before the row's. -/
theorem off_at (q j : Fin 4) (hj : j.val < q.val) (r k : Fin 512) :
    offW (scores xq (getKV h j ak)) (ix2 r k) = wt (512 * q.val + r.val) (scoreOf ak h xq r) ⟨512 * j.val + k.val, by omega⟩ := by
  unfold wt
  rw [if_pos (by show (512 * j.val + k.val) / 64 ≤ (512 * q.val + r.val) / 64; omega)]
  exact congrArg Ideal.exp (scores_at ak h xq j r k)
/-- The weights of the row's own block. -/
theorem diag_at (q : Fin 4) (r k : Fin 512) :
    diagW (scores xq (getKV h q ak)) (ix2 r k) = wt (512 * q.val + r.val) (scoreOf ak h xq r) ⟨512 * q.val + k.val, by omega⟩ := by
  rw [diagW_apply, scores_at]
  unfold wt
  refine if_congr ?_ rfl rfl
  show k.val / 64 ≤ r.val / 64 ↔ (512 * q.val + k.val) / 64 ≤ (512 * q.val + r.val) / 64
  omega
/-- The weights past the row's block are zero. -/
theorem past_at (q j : Fin 4) (hj : q.val < j.val) (r k : Fin 512) (sc : Fin 2048 → EReal) :
    wt (512 * q.val + r.val) sc ⟨512 * j.val + k.val, by omega⟩ = 0 := by
  unfold wt
  rw [if_neg (by show ¬(512 * j.val + k.val) / 64 ≤ (512 * q.val + r.val) / 64; omega)]

/-- A block's part of the sum of the weights, and of the weighted values. -/
def partW (q : Fin 4) (r : Fin 512) (j : Fin 4) : EReal := ∑ k : Fin 512, wt (512 * q.val + r.val) (scoreOf ak h xq r) ⟨512 * j.val + k.val, by omega⟩
def partV (q : Fin 4) (r : Fin 512) (d : Fin 128) (j : Fin 4) : EReal :=
  ∑ k : Fin 512, (wt (512 * q.val + r.val) (scoreOf ak h xq r) ⟨512 * j.val + k.val, by omega⟩ * av (ix3 h ⟨512 * j.val + k.val, by omega⟩ d) : EReal)

/-- The sums over blocks before the row's. -/
theorem accOver_fst (q : Fin 4) (r : Fin 512) (l : List (Fin 4)) (hl : ∀ j ∈ l, j.val < q.val) (a : Acc Ideal) :
    (accOver ak av h xq l a).1 (ix2 r 0) = a.1 (ix2 r 0) + (l.map (partW ak h xq q r)).sum := by
  induction l generalizing a with
  | nil => exact (add_zero _).symm
  | cons j l ih =>
    unfold accOver
    rw [ih (fun j hj => hl j (List.mem_cons_of_mem _ hj)), step_fst, List.map_cons, List.sum_cons, ← add_assoc]
    refine congrArg (· + _) (congrArg (_ + ·) (Finset.sum_congr rfl fun k _ => ?_))
    exact off_at ak h xq q j (hl j List.mem_cons_self) r k
theorem accOver_snd (q : Fin 4) (r : Fin 512) (d : Fin 128) (l : List (Fin 4)) (hl : ∀ j ∈ l, j.val < q.val) (a : Acc Ideal) :
    (accOver ak av h xq l a).2 (ix2 r d) = a.2 (ix2 r d) + (l.map (partV ak av h xq q r d)).sum := by
  induction l generalizing a with
  | nil => exact (add_zero _).symm
  | cons j l ih =>
    unfold accOver
    rw [ih (fun j hj => hl j (List.mem_cons_of_mem _ hj)), step_snd, List.map_cons, List.sum_cons, ← add_assoc]
    refine congrArg (· + _) (congrArg (_ + ·) (Finset.sum_congr rfl fun k _ => ?_))
    exact congrArg₂ (· * ·) (off_at ak h xq q j (hl j List.mem_cons_self) r k) (getKV_at h j av k d)

theorem below_lt (q j : Fin 4) (hj : j ∈ below q) : j.val < q.val := by revert q j; decide

/-- The blocks before, the block itself, and nothing past it. -/
theorem sum_below (q : Fin 4) (f : Fin 4 → EReal) (hf : ∀ j, q.val < j.val → f j = 0) : 0 + ((below q).map f).sum + f q = ∑ j, f j := by
  rw [Fin.sum_univ_four, zero_add]
  match q, hf with
  | 0, hf => rw [hf 1 (by decide), hf 2 (by decide), hf 3 (by decide)]; simp [below]
  | 1, hf => rw [hf 2 (by decide), hf 3 (by decide)]; simp [below]
  | 2, hf => rw [hf 3 (by decide)]; simp [below, add_assoc]
  | 3, hf => simp [below, add_assoc]

theorem acc0_fst (r : Fin 512) : (acc0 (F := Ideal)).1 (ix2 r 0) = 0 := Ideal.ofBits_zero_f32
theorem acc0_snd (r : Fin 512) (d : Fin 128) : (acc0 (F := Ideal)).2 (ix2 r d) = 0 := Ideal.ofBits_zero_f32

/-- A head's context is its row's attention over all keys. -/
theorem headOf_at (q : Fin 4) (r : Fin 512) (d : Fin 128) :
    headOf ak av q h xq (ix2 r d) = attn (512 * q.val + r.val) (scoreOf ak h xq r) (fun j => av (ix3 h j d)) := by
  unfold headOf attn
  rw [headOut_apply, step_fst, step_snd, accOver_fst ak av h xq q r _ (below_lt q), accOver_snd ak av h xq q r d _ (below_lt q), acc0_fst, acc0_snd,
    sum_keys, sum_keys]
  refine congrArg₂ Ideal.div ?_ ?_
  · refine Eq.trans (congrArg₂ (· + ·) rfl ?_) (sum_below q (partV ak av h xq q r d) fun j hj => ?_)
    · exact Finset.sum_congr rfl fun k _ => congrArg₂ (· * ·) (diag_at ak h xq q r k) (getKV_at h q av k d)
    · exact Finset.sum_eq_zero fun k _ => by rw [past_at q j hj, zero_mul]
  · refine Eq.trans (congrArg₂ (· + ·) rfl ?_) (sum_below q (partW ak h xq q r) fun j hj => ?_)
    · exact Finset.sum_congr rfl fun k _ => diag_at ak h xq q r k
    · exact Finset.sum_eq_zero fun k _ => past_at q j hj r k _

end

/-- A row's scores, from the whole queries and keys. -/
def scoreK (aq : Vec Ideal S2048x1024 .bf16) (ak : Vec Ideal S8x2048x128 .bf16) (h : Fin 8) (i j : Fin 2048) : EReal :=
  ∑ d : Fin 128, (aq (ix2 i ⟨128 * h.val + d.val, by omega⟩) * ak (ix3 h j d) : EReal)

/-- The partial product at an element: over the device's columns, the row's attention times the output weights. -/
theorem partOf_at (aq : Vec Ideal S2048x1024 .bf16) (ak av : Vec Ideal S8x2048x128 .bf16) (aw : Vec Ideal S1024x1024 .bf16) (i : Fin 2048) (n : Fin 1024) :
    partOf aq ak av aw (ix2 i n)
      = ∑ k : Fin 1024, (attn i.val (scoreK aq ak ⟨k.val / 128, by omega⟩ i) (fun j => av (ix3 ⟨k.val / 128, by omega⟩ j ⟨k.val % 128, by omega⟩))
          * aw (ix2 k n) : EReal) := by
  unfold partOf
  refine (prod_apply _ aw ⟨i.val % 512, by omega⟩ n).trans (Finset.sum_congr rfl fun k _ => congrArg (· * _) ?_)
  refine (headOf_at ak av ⟨k.val / 128, by omega⟩ _ ⟨i.val / 512, by omega⟩ ⟨i.val % 512, by omega⟩ ⟨k.val % 128, by omega⟩).trans ?_
  have e : 512 * (i.val / 512) + i.val % 512 = i.val := by omega
  show attn (512 * (i.val / 512) + i.val % 512) _ _ = _
  rw [e]
  refine congrArg (fun s => attn i.val s _) (funext fun j => Finset.sum_congr rfl fun d _ => congrArg (· * _) ?_)
  refine (getQ_at ⟨i.val / 512, by omega⟩ ⟨k.val / 128, by omega⟩ aq ⟨i.val % 512, by omega⟩ d).trans (congrArg aq (idx2_ext ?_ rfl))
  exact e

/-- The result at an element: the sum of the four devices' partial products. -/
theorem out_at (P : Dev nD → Vec Ideal S2048x1024 .bf16) (c : Dev nD) (i : Fin 2048) (n : Fin 1024) :
    outOf (sum1 P c) (landed2 P c) (ix2 i n) = ∑ d : Fin 4, (P d (ix2 i n) : EReal) := by
  unfold outOf
  refine (addOut_apply _ _ ⟨i.val % 256, by omega⟩ n).trans ?_
  have hrow : ∀ X : Vec Ideal S2048x1024 .bf16,
      inSlots X (ix4 ⟨i.val / 512, by omega⟩ ⟨i.val / 256 % 2, by omega⟩ ⟨i.val % 256, by omega⟩ n) = X (ix2 i n) := fun X =>
    congrArg X (idx2_ext (by show 512 * (i.val / 512) + 256 * (i.val / 256 % 2) + i.val % 256 = i.val; omega) rfl)
  refine Eq.trans (congrArg₂ (· + ·) (getS_at ⟨i.val / 512, by omega⟩ ⟨i.val / 256 % 2, by omega⟩ (sum1 P c) ⟨i.val % 256, by omega⟩ n)
    (getS_at ⟨i.val / 512, by omega⟩ ⟨i.val / 256 % 2, by omega⟩ (landed2 P c) ⟨i.val % 256, by omega⟩ n)) ?_
  have hs : ∀ (d : Dev nD) (b : Fin 2) (hb : b = ⟨i.val / 256 % 2, by omega⟩),
      sum1 P d (ix4 ⟨i.val / 512, by omega⟩ ⟨i.val / 256 % 2, by omega⟩ ⟨i.val % 256, by omega⟩ n) = (P d (ix2 i n) + P (pr b d) (ix2 i n) : EReal) := fun d b hb => by
    subst hb
    exact congrArg₂ (· + ·) (hrow (P d)) (hrow (P _))
  show (sum1 P c _ + sum1 P (pr (flip ⟨i.val / 256 % 2, by omega⟩) c) _ : EReal) = _
  generalize hb : (⟨i.val / 256 % 2, by omega⟩ : Fin 2) = b
  rw [← hb, hs _ b hb.symm, hs _ b hb.symm, hb, Fin.sum_univ_four]
  generalize hP : (fun d : Fin 4 => (P d (ix2 i n) : EReal)) = f
  have hf : ∀ d : Dev nD, P d (ix2 i n) = f d := fun d => congrFun hP d
  simp only [hf]
  revert b c
  clear hs hf hP hrow
  intro c b _
  have key : ∀ (c : Fin 4) (b : Fin 2), f c + f (pr b c) + (f (pr (flip b) c) + f (pr b (pr (flip b) c))) = f 0 + f 1 + f 2 + f 3 := by
    intro c b
    match b, c with
    | 0, 0 => show f 0 + f 1 + (f 3 + f 2) = _; abel
    | 0, 1 => show f 1 + f 0 + (f 2 + f 3) = _; abel
    | 0, 2 => show f 2 + f 3 + (f 1 + f 0) = _; abel
    | 0, 3 => show f 3 + f 2 + (f 0 + f 1) = _; abel
    | 1, 0 => show f 0 + f 3 + (f 1 + f 2) = _; abel
    | 1, 1 => show f 1 + f 2 + (f 0 + f 3) = _; abel
    | 1, 2 => show f 2 + f 1 + (f 3 + f 0) = _; abel
    | 1, 3 => show f 3 + f 0 + (f 2 + f 1) = _; abel
  exact key c b

end Cert.KernelIdeal.Talk

end
-- ==== Proof.KernelIdeal.Host.lean ====
/-
What the host operations around the two calls leave, read at an index: the rows without their unit axis, the device's
eight heads of the keys and of the values, and the result.
-/
module

public import proofs.«01_k».proof.Proof.KernelIdeal.Elem
public import Idealize.ShloMosaic.Lib.DynamicIndex

@[expose] public section

noncomputable section

namespace Cert.KernelIdeal.Talk

open Idealize.ShloMosaic Idealize.ShloMosaic.TcCoe Idealize.ShloMosaic.StableHlo
open Cert.KernelIdeal Cert.KernelIdeal.Gen

variable (m : (ℓ : Loc nD τ sig) → Buf (Elt Ideal) ℓ)

/-- The first head of a device, as the program computes it of the device's number. -/
def firstHead (c : Dev nD) : BitVec 32 :=
  Scalar.select (IntOp.cmpi .slt (IntOp.muli (IntOp.remui .host (IntOp.divui .host (Dev.word c) 1#32) 4#32) 8#32) 0#32)
    (IntOp.addi (IntOp.muli (IntOp.remui .host (IntOp.divui .host (Dev.word c) 1#32) 4#32) 8#32) 32#32)
    (IntOp.muli (IntOp.remui .host (IntOp.divui .host (Dev.word c) 1#32) 4#32) 8#32)

theorem firstHead_eq (c : Dev nD) : (firstHead c).toInt = (8 * c.val : Nat) := by
  revert c; decide +kernel

/-- A device's heads of a tensor of all heads, at an index. -/
theorem heads_at (x : FVec Ideal S1x2048x32x128 .bf16) (c : Dev nD) (st : Fin 3 → Int)
    (hst : ∀ a, st a = ((![0, 8 * c.val, 0] : Fin 3 → Nat) a : Int)) (h : Fin 8) (j : Fin 2048) (d : Fin 128) :
    transpose S8x2048x128 [1, 0, 2]
      (Host.dynamicSlice S2048x8x128 (shapeCast S2048x32x128 x shapeCasts_S1x2048x32x128_S2048x32x128) st sliceFits_S2048x32x128_S2048x8x128)
      transposes_S2048x8x128_S8x2048x128_1_0_2 (ix3 h j d) = x (ix4 0 j ⟨8 * c.val + h.val, by have : c.val < 4 := c.2; omega⟩ d) := by
  have hc : c.val < 4 := c.2
  rw [transpose_apply [1, 0, 2] _ transposes_S2048x8x128_S8x2048x128_1_0_2 (ix3 h j d) (ix3 j h d) (fun a => match a with
    | ⟨0, _⟩ => rfl | ⟨1, _⟩ => rfl | ⟨2, _⟩ => rfl)]
  have hoff : S2048x32x128.Slices ![0, 8 * c.val, 0] S2048x8x128 := by
    clear hst hc; revert c; decide
  refine (congrFun (Host.dynamicSlice_eq_extractStridedSlice S2048x8x128 (shapeCast S2048x32x128 x shapeCasts_S1x2048x32x128_S2048x32x128) st ![0, 8 * c.val, 0] sliceFits_S2048x32x128_S2048x8x128 hoff hst) (ix3 j h d)).trans ?_
  rw [extractStridedSlice_apply ![0, 8 * c.val, 0] _ hoff (ix3 j h d) (ix3 j ⟨8 * c.val + h.val, by omega⟩ d) (fun a => match a with
    | ⟨0, _⟩ => (Nat.zero_add _).symm | ⟨1, _⟩ => rfl | ⟨2, _⟩ => (Nat.zero_add _).symm)]
  exact shapeCast_apply x _ _ _ (by
    rewrite [Shape.rowMajor_val_four, Shape.rowMajor_val_three]
    show ((0 * 2048 + j.val) * 32 + (8 * c.val + h.val)) * 128 + d.val = (j.val * 32 + (8 * c.val + h.val)) * 128 + d.val
    omega)

theorem V1_rows (c : Dev nD) : V1 m c main_v5 = shapeCast S2048x1024 (m ((c : Thread nD τ).loc main_arg0)) shapeCasts_S1x2048x1024_S2048x1024 := by
  show after (hostOps0 c) (V0 m c) (Proc.devRef .tc main_v5) = _
  after_results
  rfl

/-- The keys' heads, from what the operations before leave. -/
theorem late_keys (c : Dev nD) (W : Valuation τ sig (Elt Ideal)) :
    after (List.drop 17 (hostOps0 c)) W (Proc.devRef .tc main_v12) = transpose S8x2048x128 [1, 0, 2]
      (Host.dynamicSlice S2048x8x128 (W (Proc.devRef .tc main_v6) : (⟨S2048x32x128, .bf16⟩ : BufTy).Contents (Elt Ideal))
        ![BitVec.toInt ((W (Proc.devRef .tc main_c_4) : (⟨S_, .i32⟩ : BufTy).Contents (Elt Ideal)) (Shape.Idx.first h_S_)),
          BitVec.toInt ((W (Proc.devRef .tc main_v10) : (⟨S_, .i32⟩ : BufTy).Contents (Elt Ideal)) (Shape.Idx.first h_S_)),
          BitVec.toInt ((W (Proc.devRef .tc main_c_5) : (⟨S_, .i32⟩ : BufTy).Contents (Elt Ideal)) (Shape.Idx.first h_S_))]
        sliceFits_S2048x32x128_S2048x8x128) transposes_S2048x8x128_S8x2048x128_1_0_2 := by
  simp only [hostOps0, List.drop_succ_cons, List.drop_zero]
  after_results
  refine congrArg (fun st => transpose S8x2048x128 [1, 0, 2] (Host.dynamicSlice S2048x8x128 (W (Proc.devRef .tc main_v6) : (⟨S2048x32x128, .bf16⟩ : BufTy).Contents (Elt Ideal)) st
    sliceFits_S2048x32x128_S2048x8x128) transposes_S2048x8x128_S8x2048x128_1_0_2) (funext fun k => ?_)
  match k with
  | ⟨0, _⟩ => rfl
  | ⟨1, _⟩ => rfl
  | ⟨2, _⟩ => rfl

theorem early_keys_x (c : Dev nD) (V : Valuation τ sig (Elt Ideal)) : after (List.take 17 (hostOps0 c)) V (Proc.devRef .tc main_v6)
    = shapeCast S2048x32x128 (V (Proc.devRef .tc main_arg2) : (⟨S1x2048x32x128, .bf16⟩ : BufTy).Contents (Elt Ideal)) shapeCasts_S1x2048x32x128_S2048x32x128 := by
  simp only [hostOps0, List.take_succ_cons, List.take_zero]
  after_results
  rfl
theorem early_keys_0 (c : Dev nD) (V : Valuation τ sig (Elt Ideal)) :
    after (List.take 17 (hostOps0 c)) V (Proc.devRef .tc main_c_4) = constantI S_ 32 0#32 := by
  simp only [hostOps0, List.take_succ_cons, List.take_zero]
  after_results
theorem early_keys_1 (c : Dev nD) (V : Valuation τ sig (Elt Ideal)) :
    after (List.take 17 (hostOps0 c)) V (Proc.devRef .tc main_v10) = fun _ => firstHead c := by
  simp only [hostOps0, List.take_succ_cons, List.take_zero]
  after_results
  rfl
theorem early_keys_2 (c : Dev nD) (V : Valuation τ sig (Elt Ideal)) :
    after (List.take 17 (hostOps0 c)) V (Proc.devRef .tc main_c_5) = constantI S_ 32 0#32 := by
  simp only [hostOps0, List.take_succ_cons, List.take_zero]
  after_results

/-- A device's heads of the keys. -/
theorem V1_keys (c : Dev nD) (h : Fin 8) (j : Fin 2048) (d : Fin 128) :
    (V1 m c main_v12 : (⟨S8x2048x128, .bf16⟩ : BufTy).Contents (Elt Ideal)) (ix3 h j d)
      = (m ((c : Thread nD τ).loc main_arg2) : (⟨S1x2048x32x128, .bf16⟩ : BufTy).Contents (Elt Ideal))
          (ix4 0 j ⟨8 * c.val + h.val, by have : c.val < 4 := c.2; omega⟩ d) := by
  have e : V1 m c main_v12 = after (List.drop 17 (hostOps0 c)) (after (List.take 17 (hostOps0 c)) (V0 m c)) (Proc.devRef .tc main_v12) := rfl
  rw [e, late_keys, early_keys_x, early_keys_0, early_keys_1, early_keys_2]
  exact heads_at _ c _ (fun a => match a with | ⟨0, _⟩ => rfl | ⟨1, _⟩ => firstHead_eq c | ⟨2, _⟩ => rfl) h j d

/-- The values' heads, from what the operations before leave. -/
theorem late_vals (c : Dev nD) (W : Valuation τ sig (Elt Ideal)) :
    after (List.drop 29 (hostOps0 c)) W (Proc.devRef .tc main_v19) = transpose S8x2048x128 [1, 0, 2]
      (Host.dynamicSlice S2048x8x128 (W (Proc.devRef .tc main_v13) : (⟨S2048x32x128, .bf16⟩ : BufTy).Contents (Elt Ideal))
        ![BitVec.toInt ((W (Proc.devRef .tc main_c_9) : (⟨S_, .i32⟩ : BufTy).Contents (Elt Ideal)) (Shape.Idx.first h_S_)),
          BitVec.toInt ((W (Proc.devRef .tc main_v17) : (⟨S_, .i32⟩ : BufTy).Contents (Elt Ideal)) (Shape.Idx.first h_S_)),
          BitVec.toInt ((W (Proc.devRef .tc main_c_10) : (⟨S_, .i32⟩ : BufTy).Contents (Elt Ideal)) (Shape.Idx.first h_S_))]
        sliceFits_S2048x32x128_S2048x8x128) transposes_S2048x8x128_S8x2048x128_1_0_2 := by
  simp only [hostOps0, List.drop_succ_cons, List.drop_zero]
  after_results
  refine congrArg (fun st => transpose S8x2048x128 [1, 0, 2] (Host.dynamicSlice S2048x8x128 (W (Proc.devRef .tc main_v13) : (⟨S2048x32x128, .bf16⟩ : BufTy).Contents (Elt Ideal)) st
    sliceFits_S2048x32x128_S2048x8x128) transposes_S2048x8x128_S8x2048x128_1_0_2) (funext fun k => ?_)
  match k with
  | ⟨0, _⟩ => rfl
  | ⟨1, _⟩ => rfl
  | ⟨2, _⟩ => rfl

theorem early_vals_x (c : Dev nD) (V : Valuation τ sig (Elt Ideal)) : after (List.take 29 (hostOps0 c)) V (Proc.devRef .tc main_v13)
    = shapeCast S2048x32x128 (V (Proc.devRef .tc main_arg3) : (⟨S1x2048x32x128, .bf16⟩ : BufTy).Contents (Elt Ideal)) shapeCasts_S1x2048x32x128_S2048x32x128 := by
  simp only [hostOps0, List.take_succ_cons, List.take_zero]
  after_results
  rfl
theorem early_vals_0 (c : Dev nD) (V : Valuation τ sig (Elt Ideal)) :
    after (List.take 29 (hostOps0 c)) V (Proc.devRef .tc main_c_9) = constantI S_ 32 0#32 := by
  simp only [hostOps0, List.take_succ_cons, List.take_zero]
  after_results
theorem early_vals_1 (c : Dev nD) (V : Valuation τ sig (Elt Ideal)) :
    after (List.take 29 (hostOps0 c)) V (Proc.devRef .tc main_v17) = fun _ => firstHead c := by
  simp only [hostOps0, List.take_succ_cons, List.take_zero]
  after_results
  rfl
theorem early_vals_2 (c : Dev nD) (V : Valuation τ sig (Elt Ideal)) :
    after (List.take 29 (hostOps0 c)) V (Proc.devRef .tc main_c_10) = constantI S_ 32 0#32 := by
  simp only [hostOps0, List.take_succ_cons, List.take_zero]
  after_results

/-- A device's heads of the values. -/
theorem V1_vals (c : Dev nD) (h : Fin 8) (j : Fin 2048) (d : Fin 128) :
    (V1 m c main_v19 : (⟨S8x2048x128, .bf16⟩ : BufTy).Contents (Elt Ideal)) (ix3 h j d)
      = (m ((c : Thread nD τ).loc main_arg3) : (⟨S1x2048x32x128, .bf16⟩ : BufTy).Contents (Elt Ideal))
          (ix4 0 j ⟨8 * c.val + h.val, by have : c.val < 4 := c.2; omega⟩ d) := by
  have e : V1 m c main_v19 = after (List.drop 29 (hostOps0 c)) (after (List.take 29 (hostOps0 c)) (V0 m c)) (Proc.devRef .tc main_v19) := rfl
  rw [e, late_vals, early_vals_x, early_vals_0, early_vals_1, early_vals_2]
  exact heads_at _ c _ (fun a => match a with | ⟨0, _⟩ => rfl | ⟨1, _⟩ => firstHead_eq c | ⟨2, _⟩ => rfl) h j d

/-- The result is the second call's, with a unit axis. -/
theorem V4_out (c : Dev nD) : V4 m (outs m) c main_v22 = shapeCast S1x2048x1024 (ov m c) shapeCasts_S2048x1024_S1x2048x1024 := by
  show after hostOps2 (V3 m (outs m) c) (Proc.devRef .tc main_v22) = _
  rw [← V3_o m c]
  after_results
  rfl

end Cert.KernelIdeal.Talk

end
-- ==== Proof.Ref.lean ====
/-
The reference's result read at an index: a sum over all heads' columns of the row's attention times the output weights.
-/
module

public import proofs.«01_k».proof.Proof.Soft
public import proofs.«01_k».proof.Proof.Gen.ReferenceIdeal.Read

@[expose] public section

noncomputable section

namespace Cert.Ref

open Idealize.ShloMosaic Idealize.ShloMosaic.TcCoe
open Idealize.ShloMosaic.ValueIdx
open Cert.ReferenceIdeal Cert.ReferenceIdeal.Gen Cert.ReferenceIdeal.Read
open Cert.Soft

/-- Floor division by 64 as the reference's program spells it, of the word `a`. -/
def div64 (a : BitVec 32) : BitVec 32 :=
  Scalar.select
    (IntOp.andi
      (IntOp.cmpi .ne (if a = 0 then (0 : BitVec 32) else if a.msb then -1 else 1) (if 64#32 = 0 then (0 : BitVec 32) else if (64#32).msb then -1 else 1))
      (IntOp.cmpi .ne (IntOp.remsi .host a 64#32) 0#32))
    (IntOp.subi (IntOp.divsi .host a 64#32) 1#32) (IntOp.divsi .host a 64#32)

set_option maxRecDepth 100000 in
/-- Of a position it is the quotient. -/
theorem div64_ofNat (a : Fin 2048) : div64 (BitVec.ofNat 32 a.val) = BitVec.ofNat 32 (a.val / 64) := by
  revert a; decide +kernel

/-- The comparison of two blocks' numbers. -/
theorem le64 (a b : Fin 32) : IntOp.cmpi .sle (BitVec.ofNat 32 a.val) (BitVec.ofNat 32 b.val) = if a.val ≤ b.val then 1#1 else 0#1 := by
  revert a b; decide +kernel

theorem v8_at (a : Fin 2048) : val_main_v8 (F := Ideal) (ix1 a) = BitVec.ofNat 32 (a.val / 64) :=
  (show val_main_v8 (F := Ideal) (ix1 a) = div64 (BitVec.ofNat 32 a.val) from rfl).trans (div64_ofNat a)
theorem v11_at (a : Fin 2048) : val_main_v11 (F := Ideal) (ix1 a) = BitVec.ofNat 32 (a.val / 64) :=
  (show val_main_v11 (F := Ideal) (ix1 a) = div64 (BitVec.ofNat 32 a.val) from rfl).trans (div64_ofNat a)

/-- The mask: a key's block of 64 is not past the row's. -/
theorem mask_at (i j : Fin 2048) : val_main_v15 (F := Ideal) (ix2 i j) = if j.val / 64 ≤ i.val / 64 then 1#1 else 0#1 := by
  rw [val_main_v15_apply, val_main_v13_apply, val_main_v14_apply, val_main_v12_apply, val_main_v9_apply]
  have e1 : idx_main_v12 (idx_main_v13 (ix2 i j)) = ix1 j := by
    funext a; match a with | ⟨0, _⟩ => rfl
  have e2 : idx_main_v9 (idx_main_v14 (ix2 i j)) = ix1 i := by
    funext a; match a with | ⟨0, _⟩ => rfl
  rw [e1, e2, v8_at, v11_at]
  exact le64 ⟨j.val / 64, by omega⟩ ⟨i.val / 64, by omega⟩

instance : Std.Commutative (IntOp.ori (w := 1)) := ⟨fun a b => by revert a b; decide⟩
instance : Std.Associative (IntOp.ori (w := 1)) := ⟨fun a b c => by revert a b c; decide⟩

/-- A fold by or is one when some element is. -/
theorem fold_ori {n : Nat} (f : Fin n → BitVec 1) (b : BitVec 1) (k : Fin n) (hk : f k = 1#1) : Finset.univ.fold (IntOp.ori (w := 1)) b f = 1#1 := by
  rw [← Finset.insert_erase (Finset.mem_univ k), Finset.fold_insert (Finset.notMem_erase _ _), hk]
  generalize Finset.fold (IntOp.ori (w := 1)) _ _ _ = y
  revert y; decide

/-- Every row keeps a key: the first. -/
theorem keep_at (i : Fin 2048) : val_main_v26 (F := Ideal) (ix1 i) = 1#1 := by
  unfold val_main_v26
  have hr : S2048x2048.Reduces [1] S2048 := by decide
  rw [Host.reduce_eq_fold_single (a := 1) (IntOp.ori (w := 1)) _ _ _ hr]
  refine fold_ori _ _ ⟨0, by decide⟩ ?_
  have e : hr.lift (ix1 i) ⟨0, by decide⟩ = (ix2 i 0 : S2048x2048.Idx) := by
    funext a; exact Fin.ext (match a with | ⟨0, _⟩ => rfl | ⟨1, _⟩ => rfl)
  show val_main_v15 (F := Ideal) (hr.lift (ix1 i) ⟨0, by decide⟩) = 1#1
  rw [e, mask_at, if_pos (by show 0 / 64 ≤ i.val / 64; omega)]

/-- The scale of the scores, as the program writes it. -/
abbrev scale : EReal := Ideal.ofBits .f32 0x3DB504F3#32

section

variable (x0 : (⟨S1x2048x1024, .bf16⟩ : BufTy).Contents (Elt Ideal)) (x1 : (⟨S1024x4096, .bf16⟩ : BufTy).Contents (Elt Ideal))
  (x2 x3 : (⟨S1x2048x32x128, .bf16⟩ : BufTy).Contents (Elt Ideal)) (x4 : (⟨S4096x1024, .bf16⟩ : BufTy).Contents (Elt Ideal))

/-- A query of a head, before the scale. -/
def query (h : Fin 32) (i : Fin 2048) (d : Fin 128) : EReal :=
  ∑ k : Fin 1024, (x0 (ix3 0 i k) * x1 (ix2 k ⟨128 * h.val + d.val, by omega⟩) : EReal)
/-- A score of a head. -/
def score (h : Fin 32) (i j : Fin 2048) : EReal := (∑ d : Fin 128, (query x0 x1 h i d * x2 (ix4 0 j h d) : EReal)) * scale

theorem score_at (h : Fin 32) (i j : Fin 2048) : val_main_v18 (F := Ideal) x0 x1 x2 (ix4 0 h i j) = score x0 x1 x2 h i j := by
  rw [val_main_v18_apply, val_main_v16_apply, val_main_v17_apply]
  unfold score
  refine congrArg (· * scale) (Finset.sum_congr rfl fun d _ => ?_)
  rw [val_main_v6_apply, val_main_v5_apply]
  refine congrArg₂ (· * ·) (Finset.sum_congr rfl fun k _ => ?_) (congrArg x2 ?_)
  · refine congrArg₂ (· * ·) (congrArg x0 ?_) (congrArg x1 ?_)
    · funext a
      refine Fin.ext (match a with | ⟨0, _⟩ => rfl | ⟨1, _⟩ => ?_ | ⟨2, _⟩ => rfl)
      show (((0 * 2048 + i.val) * 32 + h.val) * 128 + d.val) / 4096 % 2048 = i.val
      omega
    · funext a
      refine Fin.ext (match a with | ⟨0, _⟩ => rfl | ⟨1, _⟩ => ?_)
      show (((0 * 2048 + i.val) * 32 + h.val) * 128 + d.val) % 4096 = 128 * h.val + d.val
      omega
  · funext a
    exact Fin.ext (match a with | ⟨0, _⟩ => rfl | ⟨1, _⟩ => rfl | ⟨2, _⟩ => rfl | ⟨3, _⟩ => rfl)

theorem neg_inf : Ideal.ofBits .f32 0xFF800000#32 = ⊥ := by simp [Ideal.ofBits, Ideal.ieee]

/-- A masked score. -/
theorem masked_at (h : Fin 32) (i j : Fin 2048) :
    val_main_v20 (F := Ideal) x0 x1 x2 (ix4 0 h i j) = masked i.val (score x0 x1 x2 h i) j := by
  rw [val_main_v20_apply, score_at, val_main_call2_v1_apply, val_main_v19_apply, val_main_call2_v2_apply, val_main_call2_v0_apply,
    val_main_cst_1_apply]
  have e : idx_main_v19 (idx_main_call2_v1 (ix4 0 h i j)) = ix2 i j := by
    funext a; match a with | ⟨0, _⟩ => rfl | ⟨1, _⟩ => rfl
  rw [e, mask_at, Ideal.ofBits_def, neg_inf]
  unfold masked Scalar.select
  by_cases hh : j.val / 64 ≤ i.val / 64
  · simp [hh]
  · simp [hh]

/-- A row's largest masked score. -/
theorem max_at (h : Fin 32) (i j : Fin 2048) :
    val_main_v23 (F := Ideal) x0 x1 x2 (ix4 0 h i j) = Finset.univ.fold max ⊥ (masked i.val (score x0 x1 x2 h i)) := by
  rw [val_main_v23_apply, val_main_v22_apply]
  have e : idx_main_v22 (idx_main_v23 (ix4 0 h i j)) = ix3 0 h i := by
    funext a; match a with | ⟨0, _⟩ => rfl | ⟨1, _⟩ => rfl | ⟨2, _⟩ => rfl
  rw [e]
  unfold val_main_v21
  have hr : S1x32x2048x2048.Reduces [3] S1x32x2048 := by decide
  rw [Host.reduce_eq_fold_single (a := 3) FloatOps.maximumf _ _ _ hr]
  have hf : (val_main_v20 (F := Ideal) x0 x1 x2 ∘ hr.lift (ix3 0 h i)) = masked i.val (score x0 x1 x2 h i) := by
    funext k
    refine Eq.trans (congrArg (val_main_v20 (F := Ideal) x0 x1 x2) ?_) (masked_at x0 x1 x2 h i k)
    funext a; exact Fin.ext (match a with | ⟨0, _⟩ => rfl | ⟨1, _⟩ => rfl | ⟨2, _⟩ => rfl | ⟨3, _⟩ => rfl)
  rw [hf, val_main_cst_2_apply, Ideal.ofBits_def, neg_inf]
  rfl

/-- A score's exponential. -/
theorem exp_at (h : Fin 32) (i j : Fin 2048) : val_main_v25 (F := Ideal) x0 x1 x2 (ix4 0 h i j)
    = Ideal.exp (masked i.val (score x0 x1 x2 h i) j - Finset.univ.fold max ⊥ (masked i.val (score x0 x1 x2 h i))) := by
  rw [val_main_v25_apply, val_main_v24_apply, masked_at, max_at]; rfl

/-- A softmax weight. -/
theorem weight_at (h : Fin 32) (i j : Fin 2048) : val_main_v34 (F := Ideal) x0 x1 x2 (ix4 0 h i j)
    = Ideal.div (Ideal.exp (masked i.val (score x0 x1 x2 h i) j - Finset.univ.fold max ⊥ (masked i.val (score x0 x1 x2 h i))))
        (∑ k, Ideal.exp (masked i.val (score x0 x1 x2 h i) k - Finset.univ.fold max ⊥ (masked i.val (score x0 x1 x2 h i)))) := by
  rw [val_main_v34_apply, val_main_call4_v1_apply, val_main_v33_apply]
  have e1 : idx_main_v33 (idx_main_call4_v1 (ix4 0 h i j)) = ix1 i := by
    funext a; match a with | ⟨0, _⟩ => rfl
  rw [e1, keep_at, val_main_v32_apply, exp_at, val_main_v31_apply, val_main_v30_apply, val_main_call3_v1_apply, val_main_v27_apply]
  have e2 : idx_main_v27 (idx_main_call3_v1 (idx_main_v31 (ix4 0 h i j))) = ix1 i := by
    funext a; match a with | ⟨0, _⟩ => rfl
  rw [e2, keep_at, val_main_v29_apply]
  have e3 : idx_main_v29 (idx_main_v31 (ix4 0 h i j)) = ix3 0 h i := by
    funext a; match a with | ⟨0, _⟩ => rfl | ⟨1, _⟩ => rfl | ⟨2, _⟩ => rfl
  rw [e3, val_main_v28_apply]
  have hs : ∑ k : Fin 2048, val_main_v25 (F := Ideal) x0 x1 x2 (idx_main_v28 (ix3 0 h i) k)
      = ∑ k, Ideal.exp (masked i.val (score x0 x1 x2 h i) k - Finset.univ.fold max ⊥ (masked i.val (score x0 x1 x2 h i))) :=
    Finset.sum_congr rfl fun k _ => by
      refine Eq.trans (congrArg (val_main_v25 (F := Ideal) x0 x1 x2) ?_) (exp_at x0 x1 x2 h i k)
      funext a; exact Fin.ext (match a with | ⟨0, _⟩ => rfl | ⟨1, _⟩ => rfl | ⟨2, _⟩ => rfl | ⟨3, _⟩ => rfl)
  have hz : val_main_cst_4 (F := Ideal) (Shape.Idx.first h_S_) = 0 := Ideal.ofBits_zero_f32
  rw [hs, hz, zero_add]
  rfl

/-- A head's context, where its scores are real. -/
theorem ctx_at (h : Fin 32) (i : Fin 2048) (d : Fin 128) (s : Fin 2048 → ℝ) (hs : score x0 x1 x2 h i = fun j => (s j : EReal)) :
    val_main_v35 (F := Ideal) x0 x1 x2 x3 (ix4 0 h d i) = attn i.val (score x0 x1 x2 h i) (fun j => x3 (ix4 0 j h d)) := by
  rw [val_main_v35_apply]
  have e : ∀ j : Fin 2048, ridx_main_v35 (ix4 0 h d i) j = ix4 0 h i j := fun j => by
    funext a; match a with | ⟨0, _⟩ => rfl | ⟨1, _⟩ => rfl | ⟨2, _⟩ => rfl | ⟨3, _⟩ => rfl
  have e' : ∀ j : Fin 2048, lidx_main_v35 (ix4 0 h d i) j = ix4 0 j h d := fun j => by
    funext a; match a with | ⟨0, _⟩ => rfl | ⟨1, _⟩ => rfl | ⟨2, _⟩ => rfl | ⟨3, _⟩ => rfl
  have hw := softmax_eq i.val s (fun j => x3 (ix4 0 j h d)) _ rfl
  rw [hs, ← hw, ← hs]
  refine Finset.sum_congr rfl fun j _ => ?_
  rw [e, e', weight_at]
  rfl

/-- The reference's result at an element, where the scores are real. -/
theorem out_at (i : Fin 2048) (n : Fin 1024) (s : Fin 32 → Fin 2048 → ℝ) (hs : ∀ h, score x0 x1 x2 h i = fun j => (s h j : EReal)) :
    val_main_v38 (F := Ideal) x0 x1 x2 x3 x4 (ix3 0 i n)
      = ∑ k : Fin 4096, (attn i.val (score x0 x1 x2 ⟨k.val / 128, by omega⟩ i) (fun j => x3 (ix4 0 j ⟨k.val / 128, by omega⟩ ⟨k.val % 128, by omega⟩))
          * x4 (ix2 k n) : EReal) := by
  rw [val_main_v38_apply]
  refine Finset.sum_congr rfl fun k _ => congrArg₂ (· * ·) ?_ (congrArg x4 ?_)
  · rw [val_main_v37_apply, val_main_v36_apply, ← ctx_at x0 x1 x2 x3 ⟨k.val / 128, by omega⟩ i ⟨k.val % 128, by omega⟩ _ (hs _)]
    refine congrArg _ ?_
    funext a
    refine Fin.ext (match a with | ⟨0, _⟩ => rfl | ⟨1, _⟩ => ?_ | ⟨2, _⟩ => ?_ | ⟨3, _⟩ => ?_)
    · show ((0 * 2048 + i.val) * 4096 + k.val) / 128 % 32 = k.val / 128
      omega
    · show ((0 * 2048 + i.val) * 4096 + k.val) % 128 = k.val % 128
      omega
    · show ((0 * 2048 + i.val) * 4096 + k.val) / 4096 % 2048 = i.val
      omega
  · funext a
    exact Fin.ext (match a with | ⟨0, _⟩ => rfl | ⟨1, _⟩ => rfl)

end

end Cert.Ref

end
-- ==== Proof.Finite.lean ====
/-
What the precondition says: every element of the rows, of the device's query weights and of the keys is a real number.
-/
module

public import proofs.«01_k».proof.Proof.Gen.Pre_finite_scores_KernelIdeal
public import Idealize.ShloMosaic.Lib.ReduceAll
public import Idealize.ShloMosaic.Lib.IdealHost

@[expose] public section

noncomputable section

namespace Cert.Finite

open Idealize.ShloMosaic
open Cert.Pre_finite_scores_KernelIdeal Cert.Pre_finite_scores_KernelIdeal.Gen

/-- An extended real that is a real number. -/
def Real (a : EReal) : Prop := ∃ r : ℝ, a = (r : EReal)

theorem Real.mul {a b : EReal} (ha : Real a) (hb : Real b) : Real (a * b) := by
  obtain ⟨r, rfl⟩ := ha; obtain ⟨s, rfl⟩ := hb
  exact ⟨r * s, (EReal.coe_mul r s).symm⟩
theorem Real.add {a b : EReal} (ha : Real a) (hb : Real b) : Real (a + b) := by
  obtain ⟨r, rfl⟩ := ha; obtain ⟨s, rfl⟩ := hb
  exact ⟨r + s, (EReal.coe_add r s).symm⟩
theorem Real.sum {ι : Type} (t : Finset ι) (f : ι → EReal) (h : ∀ i, Real (f i)) : Real (∑ i ∈ t, f i) := by
  classical
  induction t using Finset.induction_on with
  | empty => exact ⟨0, by simp⟩
  | insert a t ha ih => rw [Finset.sum_insert ha]; exact (h a).add ih

/-- The word of infinity is the extended real infinity. -/
theorem ofBits_inf : Ideal.ofBits .f32 0x7F800000#32 = ⊤ := by simp [Ideal.ofBits, Ideal.ieee]

/-- A number whose absolute value is below infinity is real. -/
theorem real_of_lt (a : EReal) (h : FloatOps.cmpf (F := Ideal) (φ := .f32) .olt (FloatOps.hostAbsf (F := Ideal) (φ := .f32) a) (FloatOps.ofBits (F := Ideal) .f32 0x7F800000#32) = 1#1) :
    Real a := by
  have h1 : max a (-a) < ⊤ := by
    by_contra hn
    have h0 : Ideal.cmp .olt (max a (-a)) (Ideal.ofBits .f32 0x7F800000#32) = 1#1 := h
    rw [ofBits_inf] at h0
    simp [Ideal.cmp, hn] at h0
  refine ⟨a.toReal, (EReal.coe_toReal ?_ ?_).symm⟩
  · rintro rfl; simp at h1
  · rintro rfl; simp at h1

instance : Subsingleton (S_).Idx := ⟨fun a b => funext fun x => x.elim0⟩

variable (a0 : FVec Ideal S1x2048x1024 .bf16) (a1 : FVec Ideal S1024x1024 .bf16) (a2 a3 : FVec Ideal S1x2048x32x128 .bf16)
  (a4 : FVec Ideal S1024x1024 .bf16)

/-- The precondition of one device's arguments. -/
theorem real_args (h : fn (F := Ideal) a0 a1 a2 a3 a4 = fun _ => 1#1) : (∀ i, Real (a0 i)) ∧ (∀ i, Real (a1 i)) ∧ ∀ i, Real (a2 i) := by
  have e := congrFun h (Shape.Idx.first h_S_)
  obtain ⟨e1, e2⟩ := IntOp.andi_eq_one.mp e
  obtain ⟨e3, e4⟩ := IntOp.andi_eq_one.mp e1
  exact ⟨fun i => real_of_lt _ (Host.reduce_andi_all _ _ _ _ _ e3 i), fun i => real_of_lt _ (Host.reduce_andi_all _ _ _ _ _ e4 i),
    fun i => real_of_lt _ (Host.reduce_andi_all _ _ _ _ _ e2 i)⟩

end Cert.Finite

end
-- ==== Proof.Value.lean ====
/-
The kernel's result is the reference's: the devices' heads make up all heads, the scale moves out of a score's sum, and
the four partial products make up the sum over all columns.
-/
module

public import proofs.«01_k».proof.Proof.KernelIdeal.Heads
public import proofs.«01_k».proof.Proof.KernelIdeal.Host
public import proofs.«01_k».proof.Proof.Ref
public import proofs.«01_k».proof.Proof.Finite
public import Idealize.ShloMosaic.Lib.Layout

@[expose] public section

noncomputable section

namespace Cert.Value

open Idealize.ShloMosaic Idealize.ShloMosaic.TcCoe
open Cert.KernelIdeal Cert.KernelIdeal.Gen Cert.KernelIdeal.Talk
open Cert.Soft Cert.Finite

/-- The scale is a real number that is not negative. -/
theorem scale_real : ∃ r : ℝ, 0 ≤ r ∧ Cert.Ref.scale = (r : EReal) :=
  ⟨11863283 / 134217728, by norm_num, by simp [Cert.Ref.scale, Ideal.ofBits, Ideal.ieee, -EReal.coe_mul]; norm_num⟩

variable (m : (ℓ : Loc nD τ sig) → Buf (Elt Ideal) ℓ)
  (x0 : (⟨S1x2048x1024, .bf16⟩ : BufTy).Contents (Elt Ideal)) (x1 : (⟨Cert.ReferenceIdeal.S1024x4096, .bf16⟩ : BufTy).Contents (Elt Ideal))
  (x2 x3 : (⟨S1x2048x32x128, .bf16⟩ : BufTy).Contents (Elt Ideal)) (x4 : (⟨Cert.ReferenceIdeal.S4096x1024, .bf16⟩ : BufTy).Contents (Elt Ideal))

/-- The devices' arguments: the rows, keys and values whole, the query weights by columns, the output weights by rows. -/
structure Shares : Prop where
  rows : ∀ c : Dev nD, m ((c : Thread nD τ).loc main_arg0) = x0
  cols : ∀ c : Dev nD, m ((c : Thread nD τ).loc main_arg1) = Layout.block ⟨2, ![1024, 1024]⟩ ⟨2, ![1024, 4096]⟩ 1 4 c x1
  keys : ∀ c : Dev nD, m ((c : Thread nD τ).loc main_arg2) = x2
  vals : ∀ c : Dev nD, m ((c : Thread nD τ).loc main_arg3) = x3
  outs : ∀ c : Dev nD, m ((c : Thread nD τ).loc main_arg4) = Layout.block ⟨2, ![1024, 1024]⟩ ⟨2, ![4096, 1024]⟩ 0 4 c x4

/-- A device's columns of the query weights. -/
theorem cols_at (c : Fin 4) (k n : Fin 1024) :
    Layout.block ⟨2, ![1024, 1024]⟩ ⟨2, ![1024, 4096]⟩ 1 4 c x1 (by decide) (ix2 k n) = x1 (ix2 k ⟨1024 * c.val + n.val, by omega⟩) :=
  congrArg x1 (idx2_ext rfl (by show c.val * 1024 + n.val = 1024 * c.val + n.val; omega))
/-- A device's rows of the output weights. -/
theorem outs_at (c : Fin 4) (k n : Fin 1024) :
    Layout.block ⟨2, ![1024, 1024]⟩ ⟨2, ![4096, 1024]⟩ 0 4 c x4 (by decide) (ix2 k n) = x4 (ix2 ⟨1024 * c.val + k.val, by omega⟩ n) :=
  congrArg x4 (idx2_ext (by show c.val * 1024 + k.val = 1024 * c.val + k.val; omega) rfl)

variable {m x0 x1 x2 x3 x4} (H : Shares m x0 x1 x2 x3 x4)
include H

theorem row_at (c : Dev nD) (i : Fin 2048) (k : Fin 1024) : (V1 m c main_v5 : Vec Ideal S2048x1024 .bf16) (ix2 i k) = x0 (ix3 0 i k) := by
  rw [V1_rows, H.rows c]
  exact shapeCast_apply _ _ _ _ (by
    show (S1x2048x1024.rowMajor (ix3 0 i k)).val = (S2048x1024.rowMajor (ix2 i k)).val
    rw [Shape.rowMajor_val_two, Shape.rowMajor_val_three]; show (0 * 2048 + i.val) * 1024 + k.val = i.val * 1024 + k.val; omega)

/-- A device's query at a column of one of its heads is the whole's at the head's column, scaled. -/
theorem query_at (c : Dev nD) (h : Fin 8) (i : Fin 2048) (d : Fin 128) :
    (qv m c : Vec Ideal S2048x1024 .bf16) (ix2 i ⟨128 * h.val + d.val, by omega⟩)
      = Cert.Ref.query x0 x1 ⟨8 * c.val + h.val, by have : c.val < 4 := c.2; omega⟩ i d * Cert.Ref.scale := by
  have hc : c.val < 4 := c.2
  refine (proj_apply (V1 m c main_v5) (V1 m c main_arg1) i ⟨128 * h.val + d.val, by omega⟩).trans ?_
  refine congrArg (· * Cert.Ref.scale) (Finset.sum_congr rfl fun k _ => congrArg₂ (· * ·) (row_at H c i k) ?_)
  rw [V1_of m c main_arg1 (by decide)]
  refine (congrFun (H.cols c) _).trans ((cols_at x1 c k _).trans (congrArg x1 (idx2_ext rfl ?_)))
  show 1024 * c.val + (128 * h.val + d.val) = 128 * (8 * c.val + h.val) + d.val
  omega

/-- A device's scores are the whole's. -/
theorem score_eq (c : Dev nD) (h : Fin 8) (i : Fin 2048) :
    scoreK (qv m c) (V1 m c main_v12) h i = Cert.Ref.score x0 x1 x2 ⟨8 * c.val + h.val, by have : c.val < 4 := c.2; omega⟩ i := by
  funext j
  obtain ⟨r, hr, e⟩ := scale_real
  unfold scoreK Cert.Ref.score
  rw [e, sum_mul _ _ _ hr]
  refine Finset.sum_congr rfl fun d _ => ?_
  rw [query_at H c h i d, V1_keys, H.keys c, e, mul_right_comm]
  rfl

/-- A device's partial product: the whole's terms at the device's columns. -/
theorem part_eq (c : Dev nD) (i : Fin 2048) (n : Fin 1024) :
    (pv m c : Vec Ideal S2048x1024 .bf16) (ix2 i n)
      = ∑ k : Fin 1024, (attn i.val (Cert.Ref.score x0 x1 x2 ⟨(1024 * c.val + k.val) / 128, by have : c.val < 4 := c.2; omega⟩ i)
            (fun j => x3 (ix4 0 j ⟨(1024 * c.val + k.val) / 128, by have : c.val < 4 := c.2; omega⟩ ⟨(1024 * c.val + k.val) % 128, by omega⟩))
          * x4 (ix2 ⟨1024 * c.val + k.val, by have : c.val < 4 := c.2; omega⟩ n) : EReal) := by
  have hc : c.val < 4 := c.2
  refine (partOf_at (qv m c) (V1 m c main_v12) (V1 m c main_v19) (V1 m c main_arg4) i n).trans ?_
  refine Finset.sum_congr rfl fun k _ => ?_
  have hh : (⟨8 * c.val + k.val / 128, by omega⟩ : Fin 32) = ⟨(1024 * c.val + k.val) / 128, by omega⟩ := Fin.ext (by show 8 * c.val + k.val / 128 = _; dsimp only; omega)
  have hd : (⟨k.val % 128, by omega⟩ : Fin 128) = ⟨(1024 * c.val + k.val) % 128, by omega⟩ := Fin.ext (by dsimp only; omega)
  refine congrArg₂ (· * ·) (congrArg₂ (attn i.val) ((score_eq H c _ i).trans ?_) (funext fun j => ?_)) ?_
  · exact congrArg (fun h => Cert.Ref.score x0 x1 x2 h i) hh
  · rw [V1_vals, H.vals c]
    exact congrArg₂ (fun h d => x3 (ix4 0 j h d)) hh hd
  · rw [V1_of m c main_arg4 (by decide)]
    exact (congrFun (H.outs c) _).trans (outs_at x4 c k n)

/-- The scores are real numbers where the precondition holds. -/
theorem score_real (hf : ∀ c : Dev nD, (∀ i, Real ((m ((c : Thread nD τ).loc main_arg0) : Vec Ideal S1x2048x1024 .bf16) i))
      ∧ (∀ i, Real ((m ((c : Thread nD τ).loc main_arg1) : Vec Ideal S1024x1024 .bf16) i))
      ∧ ∀ i, Real ((m ((c : Thread nD τ).loc main_arg2) : Vec Ideal S1x2048x32x128 .bf16) i))
    (h : Fin 32) (i j : Fin 2048) : Real (Cert.Ref.score x0 x1 x2 h i j) := by
  have f0 : ∀ i, Real (x0 i) := fun i => (congrFun (H.rows 0) i) ▸ (hf 0).1 i
  have f2 : ∀ i, Real (x2 i) := fun i => (congrFun (H.keys 0) i) ▸ (hf 0).2.2 i
  have f1 : ∀ (k : Fin 1024) (n : Fin 4096), Real (x1 (ix2 k n)) := fun k n => by
    have hb := (hf ⟨n.val / 1024, by show n.val / 1024 < 4; omega⟩).2.1 (ix2 k ⟨n.val % 1024, by omega⟩)
    rw [H.cols] at hb
    have e := cols_at x1 ⟨n.val / 1024, by omega⟩ k ⟨n.val % 1024, by omega⟩
    have e2 : (⟨1024 * (n.val / 1024) + n.val % 1024, by omega⟩ : Fin 4096) = n := Fin.ext (by dsimp only; omega)
    exact (e.trans (congrArg (fun n => x1 (ix2 k n)) e2)) ▸ hb
  obtain ⟨r, _, e⟩ := scale_real
  exact (Real.sum _ _ fun d => (Real.sum _ _ fun k => (f0 _).mul (f1 _ _)).mul (f2 _)).mul ⟨r, e⟩

/-- The kernel's result on every device is the reference's. -/
theorem value_eq (hf : ∀ c : Dev nD, (∀ i, Real ((m ((c : Thread nD τ).loc main_arg0) : Vec Ideal S1x2048x1024 .bf16) i))
      ∧ (∀ i, Real ((m ((c : Thread nD τ).loc main_arg1) : Vec Ideal S1024x1024 .bf16) i))
      ∧ ∀ i, Real ((m ((c : Thread nD τ).loc main_arg2) : Vec Ideal S1x2048x32x128 .bf16) i)) (c : Dev nD) :
    V4 m (Talk.outs m) c main_v22 = Cert.ReferenceIdeal.Read.val_main_v38 (F := Ideal) x0 x1 x2 x3 x4 := by
  choose s hs using score_real H hf
  rw [V4_out]
  refine funext fun (I : S1x2048x1024.Idx) => ?_
  have hI : I = ix3 0 (I 1) (I 2) := idx3_ext (by have : (I 0).val < 1 := (I 0).2; show (I 0).val = 0; omega) rfl rfl
  rw [hI]
  generalize (I 1 : Fin 2048) = i
  generalize (I 2 : Fin 1024) = n
  refine Eq.trans ?_ (Cert.Ref.out_at x0 x1 x2 x3 x4 i n (fun h => s h i) (fun h => funext fun j => hs h i j)).symm
  refine (shapeCast_apply _ _ (ix3 0 i n) (ix2 i n) ?_).trans ?_
  · rw [Shape.rowMajor_val_two, Shape.rowMajor_val_three]
    show i.val * 1024 + n.val = (0 * 2048 + i.val) * 1024 + n.val
    omega
  refine (Talk.out_at (pv m) c i n).trans ?_
  rw [sum_cols]
  exact Finset.sum_congr rfl fun d _ => part_eq H d i n

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores_KernelIdeal
public import proofs.«01_k».proof.Proof.Gen.Pre_finite_scores_ReferenceIdeal
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel as printed ends, its arguments as launched and its counters at zero. -/
theorem frame_K : @Cert.quiescent_Kernel Cert.Kernel.Gen.facts := fun m g _ =>
  (θ_run _ _ _).mono (fun r h => ⟨fun c =>
    ⟨(h.1 c Cert.Kernel.main_arg0 (Finset.mem_filter.mpr ⟨StableHlo.devRef_mem_tcRefs Cert.Kernel.main_arg0, by decide⟩)).trans (Cert.Kernel.Gen.V4_main_arg0 m _ c),
     (h.1 c Cert.Kernel.main_arg1 (Finset.mem_filter.mpr ⟨StableHlo.devRef_mem_tcRefs Cert.Kernel.main_arg1, by decide⟩)).trans (Cert.Kernel.Gen.V4_main_arg1 m _ c),
     (h.1 c Cert.Kernel.main_arg2 (Finset.mem_filter.mpr ⟨StableHlo.devRef_mem_tcRefs Cert.Kernel.main_arg2, by decide⟩)).trans (Cert.Kernel.Gen.V4_main_arg2 m _ c),
     (h.1 c Cert.Kernel.main_arg3 (Finset.mem_filter.mpr ⟨StableHlo.devRef_mem_tcRefs Cert.Kernel.main_arg3, by decide⟩)).trans (Cert.Kernel.Gen.V4_main_arg3 m _ c),
     (h.1 c Cert.Kernel.main_arg4 (Finset.mem_filter.mpr ⟨StableHlo.devRef_mem_tcRefs Cert.Kernel.main_arg4, by decide⟩)).trans (Cert.Kernel.Gen.V4_main_arg4 m _ c)⟩, h.2⟩)
    (Cert.Kernel.Talk.run_main (F := Bits) m g)

/-- The idealized kernel ends, its arguments as launched and its counters at zero. -/
theorem frame_KI : @Cert.quiescent_KernelIdeal Cert.KernelIdeal.Gen.facts := fun m g _ =>
  (θ_run _ _ _).mono (fun r h => ⟨fun c =>
    ⟨(h.1 c Cert.KernelIdeal.main_arg0 (Finset.mem_filter.mpr ⟨StableHlo.devRef_mem_tcRefs Cert.KernelIdeal.main_arg0, by decide⟩)).trans (Cert.KernelIdeal.Gen.V4_main_arg0 m _ c),
     (h.1 c Cert.KernelIdeal.main_arg1 (Finset.mem_filter.mpr ⟨StableHlo.devRef_mem_tcRefs Cert.KernelIdeal.main_arg1, by decide⟩)).trans (Cert.KernelIdeal.Gen.V4_main_arg1 m _ c),
     (h.1 c Cert.KernelIdeal.main_arg2 (Finset.mem_filter.mpr ⟨StableHlo.devRef_mem_tcRefs Cert.KernelIdeal.main_arg2, by decide⟩)).trans (Cert.KernelIdeal.Gen.V4_main_arg2 m _ c),
     (h.1 c Cert.KernelIdeal.main_arg3 (Finset.mem_filter.mpr ⟨StableHlo.devRef_mem_tcRefs Cert.KernelIdeal.main_arg3, by decide⟩)).trans (Cert.KernelIdeal.Gen.V4_main_arg3 m _ c),
     (h.1 c Cert.KernelIdeal.main_arg4 (Finset.mem_filter.mpr ⟨StableHlo.devRef_mem_tcRefs Cert.KernelIdeal.main_arg4, by decide⟩)).trans (Cert.KernelIdeal.Gen.V4_main_arg4 m _ c)⟩, h.2⟩)
    (Cert.KernelIdeal.Talk.run_main (F := Ideal) m g)

/-- The reference ends, its arguments as launched and its counters at zero. -/
theorem frame_RI : @Cert.quiescent_ReferenceIdeal Cert.ReferenceIdeal.Gen.facts := fun m g _ =>
  (θ_run _ _ _).mono (fun _ h => ⟨fun c => (h c).2, sem_eq_zero_of_no_sems (by decide) _⟩)
    (Cert.ReferenceIdeal.Value.run m g)

/-- On arguments that share one whole, with finite rows, query weights and keys, every device's result over the reals is
    the reference's. -/
theorem alg : @Cert.algebraic_KernelIdeal_ReferenceIdeal_pre_finite_scores_KernelIdeal Cert.KernelIdeal.Gen.facts
    Cert.ReferenceIdeal.Gen.facts Cert.Pre_finite_scores_KernelIdeal.Gen.facts := fun m g m' g' hpre hargs =>
  ⟨Cert.ReferenceIdeal.Value.res_main_v38 m' 0,
    (θ_run _ _ _).mono (fun r h c =>
      ⟨(h.1 c Cert.KernelIdeal.main_v22 (Finset.mem_filter.mpr ⟨StableHlo.devRef_mem_tcRefs Cert.KernelIdeal.main_v22, by decide⟩)).trans
        ((Cert.Value.value_eq (m := m) ⟨fun c => (hargs c).1, fun c => (hargs c).2.1, fun c => (hargs c).2.2.1,
            fun c => (hargs c).2.2.2.1, fun c => (hargs c).2.2.2.2⟩
          (fun c => Cert.Finite.real_args _ _ _ _ _ (hpre c)) c).trans (Cert.ReferenceIdeal.Read.val_main_v38_eq m' 0).symm),
       (h.1 c Cert.KernelIdeal.main_arg0 (Finset.mem_filter.mpr ⟨StableHlo.devRef_mem_tcRefs Cert.KernelIdeal.main_arg0, by decide⟩)).trans (Cert.KernelIdeal.Gen.V4_main_arg0 m _ c),
       (h.1 c Cert.KernelIdeal.main_arg1 (Finset.mem_filter.mpr ⟨StableHlo.devRef_mem_tcRefs Cert.KernelIdeal.main_arg1, by decide⟩)).trans (Cert.KernelIdeal.Gen.V4_main_arg1 m _ c),
       (h.1 c Cert.KernelIdeal.main_arg2 (Finset.mem_filter.mpr ⟨StableHlo.devRef_mem_tcRefs Cert.KernelIdeal.main_arg2, by decide⟩)).trans (Cert.KernelIdeal.Gen.V4_main_arg2 m _ c),
       (h.1 c Cert.KernelIdeal.main_arg3 (Finset.mem_filter.mpr ⟨StableHlo.devRef_mem_tcRefs Cert.KernelIdeal.main_arg3, by decide⟩)).trans (Cert.KernelIdeal.Gen.V4_main_arg3 m _ c),
       (h.1 c Cert.KernelIdeal.main_arg4 (Finset.mem_filter.mpr ⟨StableHlo.devRef_mem_tcRefs Cert.KernelIdeal.main_arg4, by decide⟩)).trans (Cert.KernelIdeal.Gen.V4_main_arg4 m _ c)⟩)
      (Cert.KernelIdeal.Talk.run_main (F := Ideal) m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_K, frame_KI, fun m g _ => frame_KI m g trivial, frame_RI, fun m g _ => frame_RI m g trivial, trivial, alg⟩

end Cert.Proof

end
